-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S160000x256 : Shape := ⟨2, ![160000, 256]⟩
abbrev S160000 : Shape := ⟨1, ![160000]⟩
abbrev S256x1 : Shape := ⟨2, ![256, 1]⟩
abbrev S1 : Shape := ⟨1, ![1]⟩
abbrev S_ : Shape := ⟨0, ![]⟩

class Facts : Prop where
  bcast_S_S160000 : S_.BroadcastsInDim S160000 (![] : Fin 0 → Fin S160000.rank)
  reducesTo_S160000_S_d0 : S160000.ReducesTo [0] S_
  h_S_ : 0 < S_.numel

variable [Facts]

def fn {F : FTy → Type} [FloatOps F] (main_arg0 : FVec F S160000x256 .f32) (main_arg1 : IVec S160000 32) (main_arg2 : FVec F S256x1 .f32) (main_arg3 : FVec F S1 .f32) : IVec S_ 1 :=
  let main_c : IVec S_ 32 := constantI S_ 32 0#32
  let main_v0 : IVec S160000 32 := broadcastInDim S160000 ![] bcast_S_S160000 main_c
  let main_v1 : IVec S160000 1 := cmpi .sge main_arg1 main_v0
  let main_c_0 : IVec S_ 32 := constantI S_ 32 10000#32
  let main_v2 : IVec S160000 32 := broadcastInDim S160000 ![] bcast_S_S160000 main_c_0
  let main_v3 : IVec S160000 1 := cmpi .slt main_arg1 main_v2
  let main_v4 : IVec S160000 1 := andi main_v1 main_v3
  let main_c_1 : IVec S_ 1 := constantI S_ 1 1#1
  let main_v5 : IVec S_ 1 := (fun x v => Host.reduce IntOp.andi x v reducesTo_S160000_S_d0 h_S_) main_v4 main_c_1
  main_v5
-- ==== Kernel.lean ====
abbrev S160000x256 : Shape := ⟨2, ![160000, 256]⟩
abbrev S160000 : Shape := ⟨1, ![160000]⟩
abbrev S256x1 : Shape := ⟨2, ![256, 1]⟩
abbrev S1 : Shape := ⟨1, ![1]⟩
abbrev S1x256 : Shape := ⟨2, ![1, 256]⟩
abbrev S1x1 : Shape := ⟨2, ![1, 1]⟩
abbrev S32x1x5000 : Shape := ⟨3, ![32, 1, 5000]⟩
abbrev S5000x256 : Shape := ⟨2, ![5000, 256]⟩
abbrev S1x1x5000 : Shape := ⟨3, ![1, 1, 5000]⟩
abbrev S1x5000 : Shape := ⟨2, ![1, 5000]⟩
abbrev S32x10000 : Shape := ⟨2, ![32, 10000]⟩
abbrev S5008 : Shape := ⟨1, ![5008]⟩
abbrev S10000 : Shape := ⟨1, ![10000]⟩
abbrev S16 : Shape := ⟨1, ![16]⟩
abbrev S_ : Shape := ⟨0, ![]⟩
abbrev S5000 : Shape := ⟨1, ![5000]⟩
abbrev S1x10000 : Shape := ⟨2, ![1, 10000]⟩
abbrev S10000x1 : Shape := ⟨2, ![10000, 1]⟩

abbrev nBuf : Table → Nat
  | .hbm => 10
  | .local .tc .vmem => 8
  | .local .scVector .vmem => 3
  | _ => 0

abbrev bufTy : (tb : Table) → Fin (nBuf tb) → BufTy
  | .hbm, ⟨0, _⟩ => ⟨S160000x256, .f32⟩
  | .hbm, ⟨1, _⟩ => ⟨S160000, .i32⟩
  | .hbm, ⟨2, _⟩ => ⟨S256x1, .f32⟩
  | .hbm, ⟨3, _⟩ => ⟨S1, .f32⟩
  | .hbm, ⟨4, _⟩ => ⟨S1x256, .f32⟩
  | .hbm, ⟨5, _⟩ => ⟨S1x1, .f32⟩
  | .hbm, ⟨6, _⟩ => ⟨S32x1x5000, .f32⟩
  | .hbm, ⟨7, _⟩ => ⟨S32x10000, .f32⟩
  | .hbm, ⟨8, _⟩ => ⟨S1x10000, .f32⟩
  | .hbm, ⟨9, _⟩ => ⟨S10000x1, .f32⟩
  | .local .tc .vmem, ⟨0, _⟩ => ⟨S1x256, .f32⟩
  | .local .tc .vmem, ⟨1, _⟩ => ⟨S1x1, .f32⟩
  | .local .tc .vmem, ⟨2, _⟩ => ⟨S5000x256, .f32⟩
  | .local .tc .vmem, ⟨3, _⟩ => ⟨S5000x256, .f32⟩
  | .local .tc .vmem, ⟨4, _⟩ => ⟨S1x1x5000, .f32⟩
  | .local .tc .vmem, ⟨5, _⟩ => ⟨S1x1x5000, .f32⟩
  | .local .tc .vmem, ⟨6, _⟩ => ⟨S32x10000, .f32⟩
  | .local .tc .vmem, ⟨7, _⟩ => ⟨S1x10000, .f32⟩
  | .local .scVector .vmem, ⟨0, _⟩ => ⟨S5008, .i32⟩
  | .local .scVector .vmem, ⟨1, _⟩ => ⟨S5008, .f32⟩
  | .local .scVector .vmem, ⟨2, _⟩ => ⟨S10000, .f32⟩
  | _, _ => ⟨S160000x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v2_scv : Ref sig .scVector := ⟨.hbm, 6, rfl⟩
abbrev main_arg1_scv : Ref sig .scVector := ⟨.hbm, 1, rfl⟩
abbrev main_v3_scv : Ref sig .scVector := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc2_stg0_0 : Ref sig .tc := ⟨.vmem, 6, rfl⟩
abbrev cc2_stg1_0 : Ref sig .tc := ⟨.vmem, 7, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc2_sem0_0 : DmaSem sig := 9
abbrev cc2_sem1_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x5000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c5000_i32 : BitVec 32 := 5000#32
  let v2 : BitVec 32 := Scalar.muli v1 c5000_i32
  ![v2.toNat]
def k1_off2 (i : grid1.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_0 : BitVec 32 := 0#32
  let c0_i32_9_r1 : BitVec 32 := 0#32
  ![v1.toNat, 0, 0]
@[reducible] def k1_t1_loop : Scf.Loop 32 :=
  let c0_i32_2 : BitVec 32 := 0#32
  let c625_i32 : BitVec 32 := 625#32
  let v5 : BitVec 32 := Scalar.addi c0_i32_2 c625_i32
  let c1_i32 : BitVec 32 := 1#32
  ⟨c0_i32_2, v5, c1_i32⟩
def k1_off3 (k1_t1 : Fin k1_t1_loop.trips) : Fin 1 → Nat :=
  let c0_i32_2 : BitVec 32 := 0#32
  let c1_i32 : BitVec 32 := 1#32
  let arg8 : BitVec 32 := Scf.iv c0_i32_2 c1_i32 k1_t1
  let c16_i32_8 : BitVec 32 := 16#32
  let v8 : BitVec 32 := Scalar.muli arg8 c16_i32_8
  let v9 : Index := Scalar.indexCast v8
  ![v9.toNat]
@[reducible] def k1_t2_loop : Scf.Loop 32 :=
  let c0_i32_5 : BitVec 32 := 0#32
  let c313_i32 : BitVec 32 := 313#32
  let v6 : BitVec 32 := Scalar.addi c0_i32_5 c313_i32
  let c1_i32_6 : BitVec 32 := 1#32
  ⟨c0_i32_5, v6, c1_i32_6⟩
def k1_off4 (k1_t2 : Fin k1_t2_loop.trips) : Fin 1 → Nat :=
  let c0_i32_5 : BitVec 32 := 0#32
  let c1_i32_6 : BitVec 32 := 1#32
  let arg8 : BitVec 32 := Scf.iv c0_i32_5 c1_i32_6 k1_t2
  let c16_i32_8 : BitVec 32 := 16#32
  let v7 : BitVec 32 := Scalar.muli arg8 c16_i32_8
  let v8 : Index := Scalar.indexCast v7
  ![v8.toNat]

def k1_chk1 (v9 : IVec S16 32) : Prop :=
  (∀ a x, ((![v9] : Fin 1 → IVec S16 32) a x).toNat < S10000.size a)
theorem k1_idx1_inb : ∀ (v9 : IVec S16 32) (k1_hw1 : k1_chk1 v9), ∀ a x, ((![v9] : Fin 1 → IVec S16 32) a x).toNat < S10000.size a := fun v9 k1_hw1 => k1_hw1
def k1_off5 (i : grid1.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_8_r2 : BitVec 32 := 0#32
  ![v1.toNat, 0]
abbrev grid2 : Pipeline.Grid := .none

abbrev stage2_0 : Fin 1 → Memref sig .tc .vmem S32x10000 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x10000 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S160000x256 : Shape := ⟨2, ![160000, 256]⟩
abbrev S160000 : Shape := ⟨1, ![160000]⟩
abbrev S256x1 : Shape := ⟨2, ![256, 1]⟩
abbrev S1 : Shape := ⟨1, ![1]⟩
abbrev S160000x1 : Shape := ⟨2, ![160000, 1]⟩
abbrev S1x1 : Shape := ⟨2, ![1, 1]⟩
abbrev S_ : Shape := ⟨0, ![]⟩
abbrev S10000x1 : Shape := ⟨2, ![10000, 1]⟩
abbrev S10000 : Shape := ⟨1, ![10000]⟩

abbrev nBuf : Space → Nat
  | .hbm => 15
  | .vmem => 0
  | .smem => 0
  | _ => 0

abbrev bufTy : (tb : Table) → Fin (tcTables nBuf tb) → BufTy
  | .hbm, ⟨0, _⟩ => ⟨S160000x256, .f32⟩
  | .hbm, ⟨1, _⟩ => ⟨S160000, .i32⟩
  | .hbm, ⟨2, _⟩ => ⟨S256x1, .f32⟩
  | .hbm, ⟨3, _⟩ => ⟨S1, .f32⟩
  | .hbm, ⟨4, _⟩ => ⟨S160000x1, .f32⟩
  | .hbm, ⟨5, _⟩ => ⟨S1x1, .f32⟩
  | .hbm, ⟨6, _⟩ => ⟨S160000x1, .f32⟩
  | .hbm, ⟨7, _⟩ => ⟨S160000x1, .f32⟩
  | .hbm, ⟨8, _⟩ => ⟨S_, .f32⟩
  | .hbm, ⟨9, _⟩ => ⟨S10000x1, .f32⟩
  | .hbm, ⟨10, _⟩ => ⟨S160000x1, .i32⟩
  | .hbm, ⟨11, _⟩ => ⟨S10000x1, .f32⟩
  | .hbm, ⟨12, _⟩ => ⟨S_, .f32⟩
  | .hbm, ⟨13, _⟩ => ⟨S10000, .f32⟩
  | .hbm, ⟨14, _⟩ => ⟨S10000x1, .f32⟩
  | _, _ => ⟨S160000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Proof.Setup.lean ====
/-
  What the whole proof shares: the kernel's launch configuration, the resource algebra, and the pieces in which one
  tile holds the three arrays it touches (its ids, its values, its row of partial sums).
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 eq_ix1 eq_ix2 eq_ix3)

variable {F : FTy → Type}

/-! ## The configuration -/

/-- The labels of the three bodies with the two pipelines' entries. -/
abbrev ΛP : Labels := Pipeline.Sig Λ₀ (Fin 2) fun p => (pcfgs (F := F) p).Adm

/-- The SparseCore call's configuration. -/
abbrev K : SparseCore.Cfg τ sig (ΛP (F := F)) 1 := sc (F := F)

theorem nSub_zero : (K (F := F)).nSub 0 = 16 := rfl
theorem nCore_zero : (K (F := F)).nCore 0 = 2 := rfl

/-- The bodies as the launch reads them. -/
abbrev D [FloatOps F] : Defs nD τ sig (Elt F) (ΛP (F := F)) := Pipeline.defs pcfgs defs₀

abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes between the cores. -/
abbrev UH : Type := URounds (GSem nD τ sig) ℕ
/-- The handshakes; the two pipelines' transfers; the tiles' transfers. -/
abbrev UU : Type := UH × (UR sig nD τ × Counters)

local notation "𝕄" => MT nD τ sig (HIx 1) (Elt F) ℕ UU ℕ

abbrev EH : Emb UH (MT nD τ sig (HIx 1) (Elt F) ℕ UU ℕ) := embL
/-- The pipelines' component, the left of the right half. -/
def EP : Emb (UR sig nD τ) (MT nD τ sig (HIx 1) (Elt F) ℕ UU ℕ) := (Emb.inl : Emb (UR sig nD τ) (UR sig nD τ × Counters)).trans embR

instance EP_landsIn : (EP (F := F)).LandsIn (upEmb : UEmb _ (MT nD τ sig (HIx 1) (Elt F) ℕ UU ℕ)) := by unfold EP; infer_instance

/-! ## The arrays a tile touches -/

/-- The segment ids, the values per row, and the partial sums (one row per tile). -/
abbrev iLoc (d : Dev nD) : Loc nD τ sig := (SparseCore.T d).loc main_arg1
abbrev yLoc (d : Dev nD) : Loc nD τ sig := (SparseCore.T d).loc main_v2
abbrev oLoc (d : Dev nD) : Loc nD τ sig := (SparseCore.T d).loc main_v3

/-- The elements tile `w` handles: 5000 consecutive ids, row `w` of the values, row `w` of the partial sums. -/
def iSet (w : ℕ) : Finset S160000.Idx := Finset.univ.filter fun i => (i 0).val / 5000 = w
def ySet (w : ℕ) : Finset S32x1x5000.Idx := Finset.univ.filter fun i => (i 0).val = w
def oSet (w : ℕ) : Finset S32x10000.Idx := Finset.univ.filter fun i => (i 0).val = w

/-! ## The tile's sum -/

/-- The `n`-th of all ids, as a number. -/
def idAt (I : S160000.Idx → BitVec 32) (n : ℕ) : ℕ := if h : n < 160000 then (I (ix1 ⟨n, h⟩)).toNat else 0

variable [FloatOps F]

/-- The zero the accumulator starts from. -/
def zeroF : F .f32 := Scalar.ofBits .f32 0x00000000#32

/-- The value of the `n`-th row of tile `w`'s chunk. -/
def valAt (Y : S32x1x5000.Idx → F .f32) (w n : ℕ) : F .f32 := if h : w < 32 ∧ n < 5000 then Y (ix3 ⟨w, h.1⟩ 0 ⟨n, h.2⟩) else zeroF

/-- Tile `w`'s accumulator at segment `j` after its first `n` rows: each row below 5000 whose id is `j` added in turn. -/
def acc (I : S160000.Idx → BitVec 32) (Y : S32x1x5000.Idx → F .f32) (w : ℕ) : ℕ → ℕ → F .f32
  | 0, _ => zeroF
  | n + 1, j => if n < 5000 ∧ idAt I (5000 * w + n) = j then FloatOps.idxAddf (acc I Y w n j) (valAt Y w n) else acc I Y w n j

/-- The partial sums of all tiles. -/
def partials (I : S160000.Idx → BitVec 32) (Y : S32x1x5000.Idx → F .f32) : S32x10000.Idx → F .f32 :=
  fun j => acc I Y (j 0).val 5000 (j 1).val

/-! ## What a tile is handed and what it hands back -/

variable (m : (ℓ : Loc nD τ sig) → Buf (Elt F) ℓ) (Yv : (d : Dev nD) → Buf (Elt F) (yLoc d))

/-- The ids as launched. -/
abbrev ids (d : Dev nD) : S160000.Idx → BitVec 32 := m (iLoc d)
/-- The partial sums the tiles compute from those ids and the values `Yv`. -/
abbrev Pv (d : Dev nD) : Buf (Elt F) (oLoc d) := partials (F := F) (ids m d) (Yv d)

def tileIn (d : Dev nD) (w : ℕ) : sProp 𝕄 :=
  iprop((iLoc d ↦[iSet w]{fullShare} m (iLoc d)) ∗ (yLoc d ↦[ySet w]{fullShare} Yv d) ∗ (oLoc d ↦[oSet w]{fullShare} m (oLoc d)))
def tileOut (d : Dev nD) (w : ℕ) : sProp 𝕄 :=
  iprop((iLoc d ↦[iSet w]{fullShare} m (iLoc d)) ∗ (yLoc d ↦[ySet w]{fullShare} Yv d) ∗ (oLoc d ↦[oSet w]{fullShare} Pv m Yv d))

instance tileIn_storable (d : Dev nD) (w : ℕ) : BI.Storable (upEmb : UEmb _ 𝕄) (tileIn m Yv d w) := by unfold tileIn; infer_instance
instance tileOut_storable (d : Dev nD) (w : ℕ) : BI.Storable (upEmb : UEmb _ 𝕄) (tileOut m Yv d w) := by unfold tileOut; infer_instance

/-- The call's payloads: a SparseCore is handed its sixteen tiles' pieces, tile `i` of SparseCore `c` being number `16 c + i`. -/
def P : (K (F := F)).Pay (nD := nD) (Val := Elt F) (Name := ℕ) (U := UU) where
  st := fun q d c => match q with | 0 => bigSep Finset.univ fun i : Fin ((K (F := F)).nSub 0) => tileIn m Yv d (16 * c.val + i.val)
  dn := fun q d c => match q with | 0 => bigSep Finset.univ fun i : Fin ((K (F := F)).nSub 0) => tileOut m Yv d (16 * c.val + i.val)
  go := fun q d c i => match q with | 0 => tileIn m Yv d (16 * c.val + i.val)
  td := fun q d c i => match q with | 0 => tileOut m Yv d (16 * c.val + i.val)
  x := fun _ _ => iprop(emp)

instance P_storable : (P m Yv).IsStorable where
  st q d c := match q with | 0 => (inferInstance : BI.Storable (upEmb : UEmb _ 𝕄) (bigSep Finset.univ fun i : Fin ((K (F := F)).nSub 0) => tileIn m Yv d (16 * c.val + i.val)))
  dn q d c := match q with | 0 => (inferInstance : BI.Storable (upEmb : UEmb _ 𝕄) (bigSep Finset.univ fun i : Fin ((K (F := F)).nSub 0) => tileOut m Yv d (16 * c.val + i.val)))
  go q d c i := match q with | 0 => (inferInstance : BI.Storable (upEmb : UEmb _ 𝕄) (tileIn m Yv d (16 * c.val + i.val)))
  td q d c i := match q with | 0 => (inferInstance : BI.Storable (upEmb : UEmb _ 𝕄) (tileOut m Yv d (16 * c.val + i.val)))

/-! ## The arrays dealt among the tiles -/

omit [FloatOps F] in
/-- An array whose elements carry a tile number below 32 is held whole exactly when every tile's elements are held. -/
theorem deal (ℓ : Loc nD τ sig) (g : Idx ℓ → ℕ) (hg : ∀ i, g i < 32) (f : Buf (Elt F) ℓ) :
    (ℓ ↦{fullShare} f : sProp 𝕄)
      = bigSep Finset.univ fun c : Fin ((K (F := F)).nCore 0) => bigSep Finset.univ fun i : Fin ((K (F := F)).nSub 0) =>
          ℓ ↦[Finset.univ.filter fun x => g x = 16 * c.val + i.val]{fullShare} f := by
  have hin : ∀ c : Fin ((K (F := F)).nCore 0),
      (bigSep Finset.univ fun i : Fin ((K (F := F)).nSub 0) => (ℓ ↦[Finset.univ.filter fun x => g x = 16 * c.val + i.val]{fullShare} f : sProp 𝕄))
        = ℓ ↦[Finset.univ.filter fun x => g x / 16 = c.val]{fullShare} f := fun c => by
    rw [← pointsTo_biUnion Finset.univ (ℓ := ℓ) (fun i : Fin ((K (F := F)).nSub 0) => Finset.univ.filter fun x => g x = 16 * c.val + i.val)]
    · congr 1; ext x
      simp only [Finset.mem_biUnion, Finset.mem_univ, true_and, Finset.mem_filter]
      constructor
      · rintro ⟨i, hi⟩; have : i.val < 16 := i.isLt; omega
      · intro h; exact ⟨⟨g x % 16, Nat.mod_lt _ (by decide)⟩, by dsimp only; omega⟩
    · intro i _ j _ hij
      rw [Finset.disjoint_filter]; intro x _ h1 h2
      exact hij (Fin.ext (by omega))
  rw [bigSep_congr fun c _ => hin c,
    ← pointsTo_biUnion Finset.univ (ℓ := ℓ) (fun c : Fin ((K (F := F)).nCore 0) => Finset.univ.filter fun x => g x / 16 = c.val)]
  · congr 1; ext x
    simp only [Finset.mem_biUnion, Finset.mem_univ, true_and, Finset.mem_filter, true_iff]
    exact ⟨⟨g x / 16, show g x / 16 < 2 by have := hg x; omega⟩, rfl⟩
  · intro i _ j _ hij
    rw [Finset.disjoint_filter]; intro x _ h1 h2
    exact hij (Fin.ext (by omega))

/-- The three arrays whole are all the tiles' pieces, -/
theorem deal_in (d : Dev nD) :
    (iprop((iLoc d ↦{fullShare} m (iLoc d)) ∗ (yLoc d ↦{fullShare} Yv d) ∗ (oLoc d ↦{fullShare} m (oLoc d))) : sProp 𝕄)
      = bigSep Finset.univ fun c : Fin ((K (F := F)).nCore 0) => (P m Yv).st 0 d c := by
  rw [deal (iLoc d) (fun i => (i 0).val / 5000) (fun i => by have : (i 0).val < 160000 := (i 0).isLt; omega),
    deal (yLoc d) (fun i => (i 0).val) (fun i => (i 0).isLt), deal (oLoc d) (fun i => (i 0).val) (fun i => (i 0).isLt)]
  simp only [← bigSep_sep']
  rfl

/-- and after the call the same, the partial sums written. -/
theorem deal_out (d : Dev nD) :
    (bigSep Finset.univ fun c : Fin ((K (F := F)).nCore 0) => (P m Yv).dn 0 d c)
      = (iprop((iLoc d ↦{fullShare} m (iLoc d)) ∗ (yLoc d ↦{fullShare} Yv d) ∗ (oLoc d ↦{fullShare} Pv m Yv d)) : sProp 𝕄) := by
  rw [deal (iLoc d) (fun i => (i 0).val / 5000) (fun i => by have : (i 0).val < 160000 := (i 0).isLt; omega),
    deal (yLoc d) (fun i => (i 0).val) (fun i => (i 0).isLt), deal (oLoc d) (fun i => (i 0).val) (fun i => (i 0).isLt)]
  simp only [← bigSep_sep']
  rfl

/-- A SparseCore's share is its tiles' shares. -/
theorem vecSplit : (K (F := F)).VecSplit' (P m Yv) 0 := by
  intro d c
  show (bigSep Finset.univ fun i : Fin ((K (F := F)).nSub 0) => tileIn m Yv d (16 * c.val + i.val))
    ⊢ |={Set.univ}=> iprop((bigSep Finset.univ fun i : Fin ((K (F := F)).nSub 0) => tileIn m Yv d (16 * c.val + i.val))
      ∗ ((bigSep Finset.univ fun i : Fin ((K (F := F)).nSub 0) => tileOut m Yv d (16 * c.val + i.val))
        -∗ bigSep Finset.univ fun i : Fin ((K (F := F)).nSub 0) => tileOut m Yv d (16 * c.val + i.val)))
  iintro H
  imodintro
  isplitl [H]; · iexact H
  iintro H; iexact H

end Cert.Proof.Seg

end
-- ==== Proof.Lanes.lean ====
/-
  What one masked indexed add of sixteen lanes does to the accumulator: the lanes below row 5000 are added in turn at
  their ids, the others are left out.
-/
module

public import proofs.«01_k».proof.Proof.Setup
public import Idealize.ShloMosaic.Lib.Affine

@[expose] public section

noncomputable section

namespace Cert.Proof.Seg

open Cert.KernelIdeal Cert.KernelIdeal.Gen
open Idealize.ShloMosaic
open Idealize.ShloMosaic.ValueIdx (ix1 ix2 ix3 eq_ix1 eq_ix2 eq_ix3)

variable {F : FTy → Type}

/-- A fold over the first `n` numbers keeps what each step carries on. -/
theorem foldl_finRange_of_step {α : Type*} : ∀ {n : ℕ} (Q : ℕ → α → Prop) (g : α → Fin n → α) (a : α),
    (∀ (k : Fin n) b, Q k.val b → Q (k.val + 1) (g b k)) → Q 0 a → Q n ((List.finRange n).foldl g a)
  | 0, _, _, _, _, h0 => by simpa using h0
  | n + 1, Q, g, a, hs, h0 => by
    rw [List.finRange_succ_last, List.foldl_append, List.foldl_map]
    exact hs (Fin.last n) _ (foldl_finRange_of_step Q (fun b k => g b k.castSucc) a (fun k b hb => hs k.castSucc b hb) h0)

/-- The lane mask of trip `t`: lane `x` is set exactly when row `16 t + x` is among the tile's 5000. -/
theorem mask_iff (t : Fin k1_t2_loop.trips) (x : S16.Idx) : k1_pay1 0#32 t x = 1 ↔ 16 * t.val + (x 0).val < 5000 := by
  have ht : t.val < 313 := Nat.lt_of_lt_of_le t.isLt k1_t2_abs.2.1
  have hx : (x 0).val < 16 := (x 0).isLt
  have e : k1_pay1 0#32 t x = IntOp.cmpi .slt ((0#32 + BitVec.ofNat 32 t.val * 1#32) * 16#32 + BitVec.ofNat 32 (x 0).val) 5000#32 := by
    simp only [k1_pay1, cmpi, addi, broadcast, iota, Scf.iv, Scalar.muli, IntOp.muli, IntOp.addi, List.foldl_cons, List.foldl_nil, Nat.zero_mul, Nat.zero_add]
  have e2 : (0#32 + BitVec.ofNat 32 t.val * 1#32) * 16#32 + BitVec.ofNat 32 (x 0).val = BitVec.ofNat 32 (16 * t.val + (x 0).val) := by
    apply BitVec.eq_of_toNat_eq
    simp only [BitVec.toNat_add, BitVec.toNat_mul, BitVec.toNat_ofNat]
    omega
  have e3 : (BitVec.ofNat 32 (16 * t.val + (x 0).val)).toInt = ((16 * t.val + (x 0).val : ℕ) : ℤ) := by
    rw [BitVec.toInt_eq_toNat_of_lt (by rw [BitVec.toNat_ofNat]; omega), BitVec.toNat_ofNat, Nat.mod_eq_of_lt (by omega)]
  rw [e, e2]
  simp only [IntOp.cmpi, BitVec.slt, e3]
  rw [show (5000#32 : BitVec 32).toInt = 5000 by decide]
  generalize 16 * t.val + (x 0).val = n
  by_cases h : n < 5000
  · have h' : (n : ℤ) < 5000 := by exact_mod_cast h
    simp [h, h']
  · have h' : ¬(n : ℤ) < 5000 := by exact_mod_cast h
    simp [h, h']

variable [FloatOps F]

/-- Past the last of its rows the accumulator stays. -/
theorem acc_stays (I : S160000.Idx → BitVec 32) (Y : S32x1x5000.Idx → F .f32) (w j : ℕ) : ∀ n, 5000 ≤ n → acc I Y w n j = acc I Y w 5000 j := by
  intro n hn
  induction n, hn using Nat.le_induction with
  | base => rfl
  | succ n hn ih => rw [acc, if_neg (by omega), ih]

/-- One trip of the adding loop. The sixteen ids `v` and values `y` are those of rows `16 t` to `16 t + 15` so far as
    these are below 5000. -/
theorem storeIdx_acc (I : S160000.Idx → BitVec 32) (Y : S32x1x5000.Idx → F .f32) (w : ℕ) (t : Fin k1_t2_loop.trips)
    (f : Vec F S10000 .f32) (v : IVec S16 32) (y : Vec F S16 .f32) (h : ∀ a x, ((![v] : Fin S10000.rank → IVec S16 32) a x).toNat < S10000.size a)
    (hf : ∀ j, f j = acc I Y w (16 * t.val) (j 0).val)
    (hv : ∀ x : S16.Idx, 16 * t.val + (x 0).val < 5000 → (v x).toNat = idAt I (5000 * w + (16 * t.val + (x 0).val)))
    (hy : ∀ x : S16.Idx, 16 * t.val + (x 0).val < 5000 → y x = valAt Y w (16 * t.val + (x 0).val)) :
    ∀ j, storeIdx f ![v] y (k1_pay1 0#32 t) true h j = acc I Y w (16 * (t.val + 1)) (j 0).val := by
  have key : ∀ j, storeIdx f ![v] y (k1_pay1 0#32 t) true h j = acc I Y w (16 * t.val + (![16] : Fin 1 → ℕ) 0) (j 0).val := by
    unfold storeIdx
    refine foldl_finRange_of_step (fun n (g : Vec F S10000 .f32) => ∀ j, g j = acc I Y w (16 * t.val + n) (j 0).val) _ f ?_ (by simpa using hf)
    intro k g hg j
    have hk : ((Shape.ofLane k : S16.Idx) 0).val = k.val := rfl
    dsimp only
    rw [show 16 * t.val + (k.val + 1) = (16 * t.val + k.val) + 1 by ring, acc]
    by_cases hm : 16 * t.val + k.val < 5000
    · rw [if_pos ((mask_iff t _).mpr (by rw [hk]; exact hm))]
      have hid : (v (Shape.ofLane k)).toNat = idAt I (5000 * w + (16 * t.val + k.val)) := hv _ (by rw [hk]; exact hm)
      have hval : y (Shape.ofLane k) = valAt Y w (16 * t.val + k.val) := hy _ (by rw [hk]; exact hm)
      by_cases hj : idAt I (5000 * w + (16 * t.val + k.val)) = (j 0).val
      · rw [if_pos (fun a => by
          obtain rfl : a = (0 : Fin 1) := Subsingleton.elim (α := Fin 1) a 0
          exact hj.symm.trans hid.symm), if_pos rfl, if_pos ⟨hm, hj⟩, Elt.idxAdd_f32, hg, hval]
        congr 2
        exact hid.trans hj
      · rw [if_neg (fun hh => hj (hid.symm.trans (hh (0 : Fin 1)).symm)), if_neg (fun hh => hj hh.2), hg]
    · rw [if_neg (fun hh => hm (by have := (mask_iff t _).mp hh; rw [hk] at this; exact this)), if_neg (fun hh => hm hh.1), hg]
  intro j
  rw [key j]; rfl

end Cert.Proof.Seg

end
-- ==== Proof.Tile.lean ====
/-
  One tile's run. It copies in its 5000 ids and its 5000 values, clears an accumulator of 10000, adds the values into it
  sixteen at a time at their ids, and copies the accumulator out as its row of partial sums.
-/
module

public import proofs.«01_k».proof.Proof.Setup
public import proofs.«01_k».proof.Proof.Lanes

@[expose] public section

noncomputable section

namespace Cert.Proof.Seg

open Cert.KernelIdeal Cert.KernelIdeal.Gen
open Idealize.ShloMosaic
open Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 eq_ix1 eq_ix2 eq_ix3)

variable {F : FTy → Type}

local notation "𝕄" => MT nD τ sig (HIx 1) (Elt F) ℕ UU ℕ

local notation "yV" => (Memref.whole Cert.KernelIdeal.main_v2_scv : Memref Cert.KernelIdeal.sig Kind.scVector Space.hbm Cert.KernelIdeal.S32x1x5000 EltTy.f32)
local notation "iV" => (Memref.whole Cert.KernelIdeal.main_arg1_scv : Memref Cert.KernelIdeal.sig Kind.scVector Space.hbm Cert.KernelIdeal.S160000 EltTy.i32)
local notation "oV" => (Memref.whole Cert.KernelIdeal.main_v3_scv : Memref Cert.KernelIdeal.sig Kind.scVector Space.hbm Cert.KernelIdeal.S32x10000 EltTy.f32)
local notation "sI" => (Memref.whole Cert.KernelIdeal.cc1_scratch0 : Memref Cert.KernelIdeal.sig Kind.scVector Space.vmem Cert.KernelIdeal.S5008 EltTy.i32)
local notation "sY" => (Memref.whole Cert.KernelIdeal.cc1_scratch1 : Memref Cert.KernelIdeal.sig Kind.scVector Space.vmem Cert.KernelIdeal.S5008 EltTy.f32)
local notation "sA" => (Memref.whole Cert.KernelIdeal.cc1_scratch2 : Memref Cert.KernelIdeal.sig Kind.scVector Space.vmem Cert.KernelIdeal.S10000 EltTy.f32)

variable [FloatOps F]
variable (m : (ℓ : Loc nD τ sig) → Buf (Elt F) ℓ) (Yv : (d : Dev nD) → Buf (Elt F) (yLoc d))

section Tile

variable (d : Dev nD) (L : grid1.Coords)

abbrev cV : Fin τ.nSC := (L 0).castLE hcore1
abbrev jV : Fin τ.nSub := (L 1).castLE hsub1
/-- The tile's number. -/
abbrev wV : ℕ := 16 * (L 0).val + (L 1).val

theorem wV_lt : wV L < 32 := by
  have h0 : (L 0).val < 2 := (L 0).isLt
  have h1 : (L 1).val < 16 := (L 1).isLt
  unfold wV; omega

/-! ### The tile's pieces as its copies address them -/

abbrev iPiece : Memref sig .scVector .hbm S5000 .i32 := (iV).slice (Rect.unit (s := S160000) (k1_off1 L) S5000.size (k1_off1_inb L)) (fun _ => rfl)
abbrev yPiece : Memref sig .scVector .hbm S5000 .f32 :=
  ((yV).slice (Rect.unit (s := S32x1x5000) (k1_off2 L) S1x1x5000.size (k1_off2_inb L)) (fun _ => rfl)).squeeze S5000 squeezes_S1x1x5000_S5000
abbrev oPiece : Memref sig .scVector .hbm S10000 .f32 :=
  ((oV).slice (Rect.unit (s := S32x10000) (k1_off5 L) S1x10000.size (k1_off5_inb L)) (fun _ => rfl)).squeeze S10000 squeezes_S1x10000_S10000

theorem set_iPiece : (iPiece L).view.set = iSet (wV L) := by
  show ((View.whole (main_arg1_scv : Ref sig .scVector)).slice (Rect.unit (s := S160000) (k1_off1 L) S5000.size (k1_off1_inb L))).set = _
  rw [View.set_slice]; refine Finset.map_refl.trans ?_
  ext i
  rw [Rect.mem_set_unit, k1_off1_eq]
  simp only [iSet, wV, Finset.mem_filter, Finset.mem_univ, true_and]
  constructor
  · intro h
    have h0 := h 0
    simp [S5000] at h0
    omega
  · intro h a
    match a with
    | 0 =>
      have : (i 0).val < 160000 := (i 0).isLt
      show 80000 * (L 0).val + 5000 * (L 1).val ≤ (i 0).val ∧ (i 0).val < 80000 * (L 0).val + 5000 * (L 1).val + 5000
      omega
theorem set_yPiece : (yPiece L).view.set = ySet (wV L) := by
  show (((yV).view.slice (Rect.unit (s := S32x1x5000) (k1_off2 L) S1x1x5000.size (k1_off2_inb L))).reshape S5000 squeezes_S1x1x5000_S5000.numel_eq).set = _
  rw [View.set_reshape]
  show ((View.whole (main_v2_scv : Ref sig .scVector)).slice (Rect.unit (s := S32x1x5000) (k1_off2 L) S1x1x5000.size (k1_off2_inb L))).set = _
  rw [View.set_slice]; refine Finset.map_refl.trans ?_
  ext i
  rw [Rect.mem_set_unit, k1_off2_eq]
  simp only [ySet, wV, Finset.mem_filter, Finset.mem_univ, true_and]
  constructor
  · intro h
    have h0 : 16 * (L 0).val + (L 1).val ≤ (i 0).val ∧ (i 0).val < 16 * (L 0).val + (L 1).val + 1 := h 0
    omega
  · intro h a
    match a with
    | 0 =>
      show 16 * (L 0).val + (L 1).val ≤ (i 0).val ∧ (i 0).val < 16 * (L 0).val + (L 1).val + 1
      omega
    | 1 =>
      have : (i 1).val < 1 := (i 1).isLt
      show 0 ≤ (i 1).val ∧ (i 1).val < 0 + 1
      omega
    | 2 =>
      have : (i 2).val < 5000 := (i 2).isLt
      show 0 ≤ (i 2).val ∧ (i 2).val < 0 + 5000
      omega
theorem set_oPiece : (oPiece L).view.set = oSet (wV L) := by
  show (((oV).view.slice (Rect.unit (s := S32x10000) (k1_off5 L) S1x10000.size (k1_off5_inb L))).reshape S10000 squeezes_S1x10000_S10000.numel_eq).set = _
  rw [View.set_reshape]
  show ((View.whole (main_v3_scv : Ref sig .scVector)).slice (Rect.unit (s := S32x10000) (k1_off5 L) S1x10000.size (k1_off5_inb L))).set = _
  rw [View.set_slice]; refine Finset.map_refl.trans ?_
  ext i
  rw [Rect.mem_set_unit, k1_off5_eq]
  simp only [oSet, wV, Finset.mem_filter, Finset.mem_univ, true_and]
  constructor
  · intro h
    have h0 : 16 * (L 0).val + (L 1).val ≤ (i 0).val ∧ (i 0).val < 16 * (L 0).val + (L 1).val + 1 := h 0
    omega
  · intro h a
    match a with
    | 0 =>
      show 16 * (L 0).val + (L 1).val ≤ (i 0).val ∧ (i 0).val < 16 * (L 0).val + (L 1).val + 1
      omega
    | 1 =>
      have : (i 1).val < 10000 := (i 1).isLt
      show 0 ≤ (i 1).val ∧ (i 1).val < 0 + 10000
      omega

theorem pts_iPiece (f : Buf (Elt F) (iLoc d)) :
    ((iPiece L).view.loc (V d (cV L) (jV L)) ↦[(iPiece L).view.set]{fullShare} f : sProp 𝕄) = iLoc d ↦[iSet (wV L)]{fullShare} f := by
  rw [set_iPiece]
theorem pts_yPiece (f : Buf (Elt F) (yLoc d)) :
    ((yPiece L).view.loc (V d (cV L) (jV L)) ↦[(yPiece L).view.set]{fullShare} f : sProp 𝕄) = yLoc d ↦[ySet (wV L)]{fullShare} f := by
  rw [set_yPiece]
theorem pts_oPiece (f : Buf (Elt F) (oLoc d)) :
    ((oPiece L).view.loc (V d (cV L) (jV L)) ↦[(oPiece L).view.set]{fullShare} f : sProp 𝕄) = oLoc d ↦[oSet (wV L)]{fullShare} f := by
  rw [set_oPiece]
theorem pts_sI (f : Buf (Elt F) ((V d (cV L) (jV L)).loc cc1_scratch0)) :
    ((sI).view.loc (V d (cV L) (jV L)) ↦{fullShare} f : sProp 𝕄) = (V d (cV L) (jV L)).loc cc1_scratch0 ↦{fullShare} f := rfl
theorem pts_sY (f : Buf (Elt F) ((V d (cV L) (jV L)).loc cc1_scratch1)) :
    ((sY).view.loc (V d (cV L) (jV L)) ↦{fullShare} f : sProp 𝕄) = (V d (cV L) (jV L)).loc cc1_scratch1 ↦{fullShare} f := rfl
theorem pts_sA (f : Buf (Elt F) ((V d (cV L) (jV L)).loc cc1_scratch2)) :
    ((sA).view.loc (V d (cV L) (jV L)) ↦{fullShare} f : sProp 𝕄) = (V d (cV L) (jV L)).loc cc1_scratch2 ↦{fullShare} f := rfl

theorem pts_sA_access (f : Buf (Elt F) ((V d (cV L) (jV L)).loc cc1_scratch2)) :
    (((sA).access (.whole S10000)).loc (V d (cV L) (jV L)) ↦[((sA).access (.whole S10000)).set]{fullShare} f : sProp 𝕄)
      = ((sA).view.loc (V d (cV L) (jV L)) ↦{fullShare} f) := by
  rw [show ((sA).access (.whole S10000)).set = Finset.univ from Memref.set_access_whole (cc1_scratch2 : Ref sig .scVector)]

/-! ### The tile's own cells and scratch -/

abbrev cellI : GSem nD τ sig := (V d (cV L) (jV L), .dma cc1_scoped0.sem)
abbrev cellY : GSem nD τ sig := (V d (cV L) (jV L), .dma cc1_scoped1.sem)
abbrev cellO : GSem nD τ sig := (V d (cV L) (jV L), .dma cc1_scoped2.sem)

theorem ownSems0_V :
    (ownSems0 (V d (cV L) (jV L)) : sProp 𝕄)
      = iprop(semVal (cellI d L) 0 ∗ semVal (cellY d L) 0 ∗ semVal (cellO d L) 0
          ∗ bigSep ((((ownCells (V d (cV L) (jV L))).erase (cellI d L)).erase (cellY d L)).erase (cellO d L)) fun g => semVal g 0) := by
  unfold SparseCore.Cfg.ownSems0
  rw [SparseCore.bigSep_erase' ((mem_ownCells (g := cellI d L)).mpr ⟨rfl, by
      show (SemLoc.dma cc1_scoped0.sem : SemLoc sig).isScoped .scVector = true; decide⟩),
    SparseCore.bigSep_erase' (Finset.mem_erase.mpr ⟨by simp [cellI, cellY]; decide, (mem_ownCells (g := cellY d L)).mpr ⟨rfl, by
      show (SemLoc.dma cc1_scoped1.sem : SemLoc sig).isScoped .scVector = true; decide⟩⟩),
    SparseCore.bigSep_erase' (Finset.mem_erase.mpr ⟨by simp [cellY, cellO]; decide, Finset.mem_erase.mpr ⟨by simp [cellI, cellO]; decide,
      (mem_ownCells (g := cellO d L)).mpr ⟨rfl, by show (SemLoc.dma cc1_scoped2.sem : SemLoc sig).isScoped .scVector = true; decide⟩⟩⟩)]

theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
      SparseCore.Cfg.mem_ownRefs_of_owner (p := Proc.scVector (cV L) (jV L)) (b := (Proc.scVector (cV L) (jV L)).devRef cc1_scratch2) rfl⟩⟩)]

/-- What is known of an array's contents, taken along with the array. -/
theorem hold_fact (ℓ : Loc nD τ sig) (f : Buf (Elt F) ℓ) (Q : Buf (Elt F) ℓ → Prop) (h : Q f) :
    (ℓ ↦{fullShare} f : sProp 𝕄) ⊢ iprop(∃ g, ⌜Q g⌝ ∗ ℓ ↦{fullShare} g) := by
  iintro H
  iexists f; isplitr; · ipureintro; exact h
  iexact H

/-! ### Where the pieces' elements lie, and what the copies land -/

theorem emb_iPiece (x : S5000.Idx) : (iPiece L).view.emb x = ix1 ⟨5000 * wV L + (x 0).val, by
    have := wV_lt L; have : (x 0).val < 5000 := (x 0).isLt; omega⟩ := by
  funext a
  obtain rfl : a = (0 : Fin 1) := Subsingleton.elim (α := Fin 1) a 0
  refine Fin.ext ?_
  show (k1_off1 L) 0 + 1 * (x 0).val = 5000 * (16 * (L 0).val + (L 1).val) + (x 0).val
  rw [k1_off1_eq]
  show 80000 * (L 0).val + 5000 * (L 1).val + 1 * (x 0).val = _
  omega

theorem emb_yPiece (x : S5000.Idx) (hx : (x 0).val < 5000) : (yPiece L).view.emb x = ix3 ⟨wV L, wV_lt L⟩ 0 ⟨(x 0).val, hx⟩ := by
  have hr : Shape.reshapeEquiv (s := S1x1x5000) (s' := S5000) squeezes_S1x1x5000_S5000.numel_eq x = (ix3 0 0 ⟨(x 0).val, hx⟩ : S1x1x5000.Idx) :=
    Shape.reshapeEquiv_eq_of_rowMajor _ (((Shape.rowMajor_val_three (ix3 0 0 ⟨(x 0).val, hx⟩ : S1x1x5000.Idx)).trans
      (show (0 * 1 + 0) * 5000 + (x 0).val = (x 0).val by omega)).trans (Shape.rowMajor_val_one x).symm)
  show (Rect.unit (s := S32x1x5000) (k1_off2 L) S1x1x5000.size (k1_off2_inb L)).emb (Shape.reshapeEquiv (s := S1x1x5000) (s' := S5000) squeezes_S1x1x5000_S5000.numel_eq x) = _
  rw [hr]
  funext a
  refine Fin.ext ((Rect.emb_apply _ _ _).trans ?_)
  match a with
  | 0 => show (k1_off2 L) 0 + 1 * 0 = 16 * (L 0).val + (L 1).val; rw [k1_off2_eq]; rfl
  | 1 => show (k1_off2 L) 1 + 1 * 0 = 0; rw [k1_off2_eq]; rfl
  | 2 => show (k1_off2 L) 2 + 1 * (x 0).val = (x 0).val; rw [k1_off2_eq]; show 0 + 1 * (x 0).val = (x 0).val; omega

theorem emb_oPiece (x : S10000.Idx) (hx : (x 0).val < 10000) : (oPiece L).view.emb x = ix2 ⟨wV L, wV_lt L⟩ ⟨(x 0).val, hx⟩ := by
  have hr : Shape.reshapeEquiv (s := S1x10000) (s' := S10000) squeezes_S1x10000_S10000.numel_eq x = (ix2 0 ⟨(x 0).val, hx⟩ : S1x10000.Idx) :=
    Shape.reshapeEquiv_eq_of_rowMajor _ (((Shape.rowMajor_val_two (ix2 0 ⟨(x 0).val, hx⟩ : S1x10000.Idx)).trans
      (show 0 * 10000 + (x 0).val = (x 0).val by omega)).trans (Shape.rowMajor_val_one x).symm)
  show (Rect.unit (s := S32x10000) (k1_off5 L) S1x10000.size (k1_off5_inb L)).emb (Shape.reshapeEquiv (s := S1x10000) (s' := S10000) squeezes_S1x10000_S10000.numel_eq x) = _
  rw [hr]
  funext a
  refine Fin.ext ((Rect.emb_apply _ _ _).trans ?_)
  match a with
  | 0 => show (k1_off5 L) 0 + 1 * 0 = 16 * (L 0).val + (L 1).val; rw [k1_off5_eq]; rfl
  | 1 => show (k1_off5 L) 1 + 1 * (x 0).val = (x 0).val; rw [k1_off5_eq]; show 0 + 1 * (x 0).val = (x 0).val; omega

/-- A store over the first 5000 of 5008 leaves its payload there, -/
theorem landed_lt {e : EltTy} (M : Memref sig .scVector .vmem S5008 e) (g : M.view.ty.Contents (Elt F)) (w : S5000.Idx → Elt F e)
    (Ls : List (View.Piece (Elt F) S5008 e)) (j : S5008.Idx) (hj : (j 0).val < 5000) :
    M.view.read (Elt F) (M.view.writes (Elt F) g (⟨Rect.unit (s := S5008) ![0] S5000.size inb_S5008_S5000_0, w⟩ :: Ls)) j = w (ix1 ⟨(j 0).val, hj⟩) := by
  have e : j = (Rect.unit (s := S5008) ![0] S5000.size inb_S5008_S5000_0).emb (ix1 ⟨(j 0).val, hj⟩ : S5000.Idx) := by
    funext a
    obtain rfl : a = (0 : Fin 1) := Subsingleton.elim (α := Fin 1) a 0
    refine Fin.ext ?_
    show (j 0).val = 0 + 1 * (j 0).val
    omega
  conv_lhs => rw [e]
  exact View.read_writes_cons_emb M.view g (Rect.unit (s := S5008) ![0] S5000.size inb_S5008_S5000_0) w Ls (ix1 ⟨(j 0).val, hj⟩)

/-- and the last eight as the store of the last sixteen left them. -/
theorem landed_ge {e : EltTy} (M : Memref sig .scVector .vmem S5008 e) (g : M.view.ty.Contents (Elt F)) (w : S5000.Idx → Elt F e) (u : S16.Idx → Elt F e)
    (z : Elt F e) (hu : ∀ x, u x = z) (j : S5008.Idx) (hj : ¬(j 0).val < 5000) :
    M.view.read (Elt F) (M.view.writes (Elt F) g [⟨Rect.unit (s := S5008) ![0] S5000.size inb_S5008_S5000_0, w⟩,
      ⟨Rect.unit (s := S5008) ![4992] S16.size inb_S5008_S16_4992, u⟩]) j = z := by
  have h8 : (j 0).val < 5008 := (j 0).isLt
  rw [View.writes_cons, View.read_slice_write_of_not_mem _ _ _ _ (by
    rw [Rect.map_emb_univ, Rect.mem_set_unit]
    intro h
    have h0 : 0 ≤ (j 0).val ∧ (j 0).val < 0 + 5000 := h 0
    omega)]
  have e : j = (Rect.unit (s := S5008) ![4992] S16.size inb_S5008_S16_4992).emb (ix1 ⟨(j 0).val - 4992, by omega⟩ : S16.Idx) := by
    funext a
    obtain rfl : a = (0 : Fin 1) := Subsingleton.elim (α := Fin 1) a 0
    refine Fin.ext ?_
    show (j 0).val = 4992 + 1 * ((j 0).val - 4992)
    omega
  conv_lhs => rw [e]
  exact (View.read_writes_cons_emb M.view g (Rect.unit (s := S5008) ![4992] S16.size inb_S5008_S16_4992) u [] (ix1 ⟨(j 0).val - 4992, by omega⟩)).trans (hu _)

/-- The ids' scratch after the store of zeros and the copy: the tile's ids, then eight zeros. -/
theorem ids_landed (g : Vec F S5008 .i32) (j : S5008.Idx) :
    ((sI).view.read (Elt F) ((sI).view.writes (Elt F) g [⟨Rect.unit (s := S5008) ![0] S5000.size inb_S5008_S5000_0, ReadAs.same.apply (View.read (Elt F) (iPiece L).view (m (iLoc d)))⟩,
      ⟨Rect.unit (s := S5008) ![4992] S16.size inb_S5008_S16_4992, k1_pay2⟩]) j : BitVec 32).toNat
      = if (j 0).val < 5000 then idAt (ids m d) (5000 * wV L + (j 0).val) else 0 := by
  by_cases hj : (j 0).val < 5000
  · rw [if_pos hj, landed_lt (F := F) sI g _ _ j hj]
    have hlt : 5000 * wV L + (j 0).val < 160000 := by have := wV_lt L; omega
    unfold idAt
    rw [dif_pos hlt]
    refine congrArg BitVec.toNat ?_
    exact congrArg (m (iLoc d)) (emb_iPiece L (ix1 ⟨(j 0).val, hj⟩))
  · rw [if_neg hj, landed_ge (F := F) sI g _ k1_pay2 (0#32) (fun _ => rfl) j hj]
    rfl

/-- The values' scratch after the copy. -/
theorem vals_landed (g : Vec F S5008 .f32) (j : S5008.Idx) (hj : (j 0).val < 5000) :
    ((sY).view.read (Elt F) ((sY).view.writes (Elt F) g [⟨Rect.unit (s := S5008) ![0] S5000.size inb_S5008_S5000_0, ReadAs.same.apply (View.read (Elt F) (yPiece L).view (Yv d))⟩]) j : F .f32)
      = valAt (Yv d) (wV L) (j 0).val := by
  rw [landed_lt (F := F) sY g _ _ j hj]
  unfold valAt
  rw [dif_pos ⟨wV_lt L, hj⟩]
  exact congrArg (Yv d) (emb_yPiece L (ix1 ⟨(j 0).val, hj⟩) hj)

/-- The ids a trip of the adding loop reads are in range. -/
theorem chk_of (hids : ∀ n, idAt (ids m d) n < 10000) (fi : (sI).view.ty.Contents (Elt F))
    (hI : ∀ j : S5008.Idx, ((sI).view.read (Elt F) fi j : BitVec 32).toNat = if (j 0).val < 5000 then idAt (ids m d) (5000 * wV L + (j 0).val) else 0)
    (k : Fin k1_t2_loop.trips) :
    k1_chk1 ((sI).view.readAt (Elt F) (Rect.unit (s := S5008) (k1_off4 k) S16.size (k1_off4_inb k)).toLoadRect fi) := by
  intro a x
  obtain rfl : a = (0 : Fin 1) := Subsingleton.elim (α := Fin 1) a 0
  show ((sI).view.readAt (Elt F) (Rect.unit (s := S5008) (k1_off4 k) S16.size (k1_off4_inb k)).toLoadRect fi x : BitVec 32).toNat < 10000
  rw [View.readAt_apply, hI]
  split
  · exact hids _
  · decide

/-- The row a lane of trip `k` reads. -/
theorem off4_val (k : Fin k1_t2_loop.trips) (x : S16.Idx) :
    (((Rect.unit (s := S5008) (k1_off4 k) S16.size (k1_off4_inb k)).toLoadRect.idx x) 0).val = 16 * k.val + (x 0).val := by
  show (k1_off4 k) 0 + 1 * (x 0).val = _
  rw [k1_off4_eq]
  show 16 * k.val + 1 * (x 0).val = _
  omega

/-- A trip of the adding loop. -/
theorem added (fi : (sI).view.ty.Contents (Elt F)) (fy : (sY).view.ty.Contents (Elt F))
    (hI : ∀ j : S5008.Idx, ((sI).view.read (Elt F) fi j : BitVec 32).toNat = if (j 0).val < 5000 then idAt (ids m d) (5000 * wV L + (j 0).val) else 0)
    (hY : ∀ j : S5008.Idx, (j 0).val < 5000 → ((sY).view.read (Elt F) fy j : F .f32) = valAt (Yv d) (wV L) (j 0).val)
    (k : Fin k1_t2_loop.trips) (f : Vec F S10000 .f32) (hf : ∀ j : S10000.Idx, f j = acc (ids m d) (Yv d) (wV L) (16 * k.val) (j 0).val)
    (h : ∀ a x, ((![(sI).view.readAt (Elt F) (Rect.unit (s := S5008) (k1_off4 k) S16.size (k1_off4_inb k)).toLoadRect fi] : Fin S10000.rank → IVec S16 32) a x).toNat < S10000.size a) :
    ∀ j, storeIdx f ![(sI).view.readAt (Elt F) (Rect.unit (s := S5008) (k1_off4 k) S16.size (k1_off4_inb k)).toLoadRect fi]
      ((sY).view.readAt (Elt F) (Rect.unit (s := S5008) (k1_off4 k) S16.size (k1_off4_inb k)).toLoadRect fy) (k1_pay1 0#32 k) true h j
        = acc (ids m d) (Yv d) (wV L) (16 * (k.val + 1)) (j 0).val := by
  refine storeIdx_acc (ids m d) (Yv d) (wV L) k f _ _ h hf (fun x hx => ?_) (fun x hx => ?_)
  · rw [View.readAt_apply, hI, off4_val, if_pos hx]
  · rw [View.readAt_apply, hY _ (by rw [off4_val]; exact hx), off4_val]

/-- A trip of the clearing loop. -/
theorem cleared (k : Fin k1_t1_loop.trips) (f : Vec F S10000 .f32) (hf : ∀ j : S10000.Idx, (j 0).val < 16 * k.val → f j = zeroF)
    (j : S10000.Idx) (hj : (j 0).val < 16 * (k.val + 1)) :
    ((sA).view.writes (Elt F) f [⟨Rect.unit (s := S10000) (k1_off3 k) S16.size (k1_off3_inb k), k1_pay3⟩] j : F .f32) = zeroF := by
  by_cases h : (j 0).val < 16 * k.val
  · refine Eq.trans ?_ (hf j h)
    refine View.read_writes_apply_of_forall_not_mem (sA).view f j [⟨Rect.unit (s := S10000) (k1_off3 k) S16.size (k1_off3_inb k), k1_pay3⟩] (fun p hp => ?_)
    rw [List.mem_singleton] at hp
    subst hp
    rw [Rect.mem_set_unit, k1_off3_eq]
    intro hh
    have h0 : 16 * k.val ≤ (j 0).val ∧ (j 0).val < 16 * k.val + 16 := hh 0
    omega
  · have hm : j ∈ (Rect.unit (s := S10000) (k1_off3 k) S16.size (k1_off3_inb k)).set := by
      rw [Rect.mem_set_unit, k1_off3_eq]
      intro a
      obtain rfl : a = (0 : Fin 1) := Subsingleton.elim (α := Fin 1) a 0
      show 16 * k.val ≤ (j 0).val ∧ (j 0).val < 16 * k.val + 16
      omega
    obtain ⟨x, hx⟩ := (Rect.unit (s := S10000) (k1_off3 k) S16.size (k1_off3_inb k)).exists_idx_of_mem hm
    rw [← hx]
    exact View.read_writes_cons_emb (sA).view f (Rect.unit (s := S10000) (k1_off3 k) S16.size (k1_off3_inb k)) k1_pay3 [] x

/-- Contents that a view reads alike are alike on its elements. -/
theorem eqOn_of_read {sp : Space} {κ : Kind} {s : Shape} {e : EltTy} (v : View sig κ sp s e) (f g : v.ty.Contents (Elt F))
    (h : ∀ x, v.read (Elt F) f x = v.read (Elt F) g x) : ∀ i ∈ v.set, f i = g i := by
  intro i hi
  obtain ⟨x, -, rfl⟩ := Finset.mem_map.mp hi
  exact eq_of_heq ((cast_heq _ _).symm.trans ((heq_of_eq (h x)).trans (cast_heq _ _)))

attribute [local irreducible] acc in
theorem Pv_ix2 (w : Fin 32) (n : Fin 10000) : Pv m Yv d (ix2 w n : S32x10000.Idx) = acc (ids m d) (Yv d) w.val 5000 n.val := rfl

attribute [local irreducible] acc in
/-- The row copied out, once the accumulator holds the tile's sums. -/
theorem out_row (w : Vec F S10000 .f32) (hw : ∀ j : S10000.Idx, w j = acc (ids m d) (Yv d) (wV L) 5000 (j 0).val) :
    ((oPiece L).view.loc (V d (cV L) (jV L)) ↦[(oPiece L).view.set]{fullShare}
        (oPiece L).view.writes (Elt F) (m (oLoc d)) [⟨Rect.whole S10000, w⟩] : sProp 𝕄)
      = oLoc d ↦[oSet (wV L)]{fullShare} Pv m Yv d := by
  refine (pointsTo_congr (eqOn_of_read (oPiece L).view _ (Pv m Yv d) fun x => ?_)).trans (by rw [set_oPiece])
  have h1 := View.read_writes_cons_emb (oPiece L).view (m (oLoc d)) (Rect.whole S10000) w [] x
  rw [Rect.emb_whole_apply] at h1
  have hx : (x 0).val < 10000 := (x 0).isLt
  refine (h1.trans (hw x)).trans ?_
  exact ((congrArg (Pv m Yv d) (emb_oPiece L x hx)).trans (Pv_ix2 m Yv d ⟨wV L, wV_lt L⟩ ⟨(x 0).val, hx⟩)).symm

/-! ### The loops' invariants -/

/-- The clearing loop: the elements of the trips so far are zero. -/
def inv1 (k : Nat) (_ : PUnit) : sProp 𝕄 :=
  iprop(∃ f : Vec F S10000 .f32, ⌜∀ j : S10000.Idx, (j 0).val < 16 * k → f j = zeroF⌝
    ∗ ((sA).view.loc (V d (cV L) (jV L)) ↦{fullShare} f))

/-- The adding loop: the accumulator holds the sum of the rows of the trips so far; ids and values stay. -/
def inv2 (fi : Buf (Elt F) ((V d (cV L) (jV L)).loc cc1_scratch0)) (fy : Buf (Elt F) ((V d (cV L) (jV L)).loc cc1_scratch1)) (k : Nat) (_ : PUnit) : sProp 𝕄 :=
  iprop(((sI).view.loc (V d (cV L) (jV L)) ↦{fullShare} fi) ∗ ((sY).view.loc (V d (cV L) (jV L)) ↦{fullShare} fy)
    ∗ ∃ f : Vec F S10000 .f32, ⌜∀ j : S10000.Idx, f j = acc (ids m d) (Yv d) (wV L) (16 * k) (j 0).val⌝
      ∗ ((sA).view.loc (V d (cV L) (jV L)) ↦{fullShare} f))

set_option sl_exec.dmaWindow true in
theorem tile_body (hF : (K (F := F)).Facts) (O : CellTallies nD τ sig (HIx 1)) (W : Waits sig (HIx 1)) (hO : ∀ g, O g none = 0)
    (hids : ∀ n, idAt (ids m d) n < 10000) :
    iprop(levAts (K (F := F)).L (K (F := F)).lev ∗ emp ∗ tileIn m Yv d (wV L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__seg_body L yV (Memref.isWhole_whole _) iV (Memref.isWhole_whole _) oV (Memref.isWhole_whole _)
            sI (Memref.isWhole_whole _) sY (Memref.isWhole_whole _) sA (Memref.isWhole_whole _) cc1_scoped0 cc1_scoped1 cc1_scoped2)
          fun _ => iprop(tileOut m Yv d (wV L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  unfold tileIn
  simp only [cc1__seg_body_eq_skeleton]; unfold cc1__seg_body_skel
  simp only [k1_part1_eq_skeleton]; unfold k1_part1_skel
  simp only [Prog.bind_assoc]
  iintro ⟨#Hlv, -, ⟨Hi, Hy, Ho⟩, ⟨⟨%gi, Hsi⟩, ⟨%gy, Hsy⟩, ⟨%ga, Hsa⟩, Hbufs⟩, ⟨HcI, HcY, HcO, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iPiece (F := F) d L _).symm) $$ Hi
  ihave Hy' := (Entails.of_eq (pts_yPiece (F := F) d L _).symm) $$ Hy
  ihave Ho' := (Entails.of_eq (pts_oPiece (F := F) d L _).symm) $$ Ho
  ihave Hsi' := (Entails.of_eq (pts_sI (F := F) d L _).symm) $$ Hsi
  ihave Hsy' := (Entails.of_eq (pts_sY (F := F) d L _).symm) $$ Hsy
  ihave Hsa' := (Entails.of_eq (pts_sA (F := F) d L _).symm) $$ Hsa
  sl_exec
  ihave Hfi := (hold_fact _ _ (fun g => ∀ j : S5008.Idx, ((sI).view.read (Elt F) g j : BitVec 32).toNat = if (j 0).val < 5000 then idAt (ids m d) (5000 * wV L + (j 0).val) else 0) ?hI) $$ Hsi'
  case hI =>
    sl_unfold_run_names
    exact ids_landed m d L _
  icases Hfi with ⟨%fi, %hI, Hsi'⟩
  ihave Hfy := (hold_fact _ _ (fun g => ∀ j : S5008.Idx, (j 0).val < 5000 → ((sY).view.read (Elt F) g j : F .f32) = valAt (Yv d) (wV L) (j 0).val) ?hY) $$ Hsy'
  case hY =>
    sl_unfold_run_names
    exact vals_landed Yv d L gy
  icases Hfy with ⟨%fy, %hY, Hsy'⟩
  sl_for (inv1 d L) $$ [Hsa']
  case region =>
    intro k _
    unfold inv1
    iintro ⟨%f, %hf, Hsa⟩
    sl_exec
    sl_step
    iexists _; isplitr
    · ipureintro; exact cleared k f hf
    · iexact Hsa
  · unfold inv1
    iexists ga; isplitr; · ipureintro; intro j hj; omega
    iexact Hsa'
  iintro %_ HI
  unfold inv1
  icases HI with ⟨%f0, %hf0, Hsa'⟩
  sl_exec
  sl_for (inv2 m Yv d L fi fy) $$ [Hsi' Hsy' Hsa']
  case region =>
    intro k _
    unfold inv2
    iintro ⟨Hsi, Hsy, %f, %hf, Hsa⟩
    sl_exec
    rw [wp_assume_of _ _ _ _ (chk_of m d L hids fi hI k)]
    sl_exec
    ihave Hsa' := (Entails.of_eq (pts_sA_access (F := F) d L _).symm) $$ Hsa
    iapply (SparseCore.wp_vectorStoreIdx 𝒱₀ (V d (cV L) (jV L)) none Set.univ (base := (sA : Memref sig .scVector .vmem S10000 .f32))) $$ Hsa'; iintro Hsa'
    ihave Hsa := (Entails.of_eq (pts_sA_access (F := F) d L _)) $$ Hsa'
    sl_step
    isplitl [Hsi]; · iexact Hsi
    isplitl [Hsy]; · iexact Hsy
    iexists _; isplitr
    swap; · iexact Hsa
    ipureintro; intro j
    refine (congrFun (Memref.write_access_whole_univ (Elt F) (cc1_scratch2 : Ref sig .scVector) f _) j).trans ?_
    rw [show View.read (Elt F) ((Memref.whole cc1_scratch2).access (Rect.whole cc1_scratch2.ty.shape)) f = f from
      Memref.read_access_whole (Elt F) (cc1_scratch2 : Ref sig .scVector) f]
    exact added m Yv d L fi fy hI hY k f hf _ j
  · unfold inv2
    isplitl [Hsi']; · iexact Hsi'
    isplitl [Hsy']; · iexact Hsy'
    iexists f0; isplitr
    · ipureintro; intro j
      exact hf0 j (Nat.lt_of_lt_of_le (j 0).isLt (by decide))
    · iexact Hsa'
  iintro %_ HI
  unfold inv2
  icases HI with ⟨Hsi', Hsy', %f1, %hf1, Hsa'⟩
  sl_exec
  sl_step
  ihave Hi := (Entails.of_eq (pts_iPiece (F := F) d L _)) $$ Hi'
  ihave Hy := (Entails.of_eq (pts_yPiece (F := F) d L _)) $$ Hy'
  ihave Ho := (Entails.of_eq (out_row m Yv d L _ ?hw)) $$ Ho'
  case hw =>
    sl_unfold_run_names
    exact fun j => (hf1 j).trans (acc_stays _ _ _ _ _ (by decide))
  isplitl [Hi Hy Ho]
  · unfold tileOut
    isplitl [Hi]; · iexact Hi
    isplitl [Hy]; · iexact Hy
    iexact Ho
  isplitl [Hsi' Hsy' Hsa' Hbufs]
  · isplitl [Hsi']; · iexists _; iexact Hsi'
    isplitl [Hsy']; · iexists _; iexact Hsy'
    isplitl [Hsa']; · iexists _; iexact Hsa'
    iexact Hbufs
  isplitl [HcI HcY HcO Hsems]
  · isplitl [HcI]; · iexact HcI
    isplitl [HcY]; · iexact HcY
    isplitl [HcO]; · iexact HcO
    iexact Hsems
  iexists _; isplitr
  swap; · iexact HO
  ipureintro; intro p _
  rcases p.2 with _ | q
  · exact .inr (.inl rfl)
  · exact .inr (.inr (congrArg some (Subsingleton.elim q 0)))

/-! ### The obligation of the launch -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__seg_body (coordsV c s)
          yV (Memref.isWhole_whole _) iV (Memref.isWhole_whole _) oV (Memref.isWhole_whole _)
          sI (Memref.isWhole_whole _) sY (Memref.isWhole_whole _) sA (Memref.isWhole_whole _) cc1_scoped0 cc1_scoped1 cc1_scoped2) ⟨⟩ c s := rfl

theorem tileObl (hF : (K (F := F)).Facts) (hids : ∀ d n, idAt (ids m d) n < 10000) : (K (F := F)).TileObl (D (F := F)) 𝒱 (P m Yv) v₀ 0 := by
  intro d c i O W hO _ _
  simp only [show (P m Yv).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m Yv d (coordsV ⟨_, hci.1⟩ ⟨_, hci.2⟩) hF O W hO (hids d)

end Tile

end Cert.Proof.Seg

end
-- ==== Proof.Regions.lean ====
/-
  The two TensorCore pipelines around the SparseCore call: the product of the rows with the weights (32 points, one
  block of 5000 rows each) and the sum of the 32 rows of partial sums (one point). Of each: what its body leaves, and
  the region as the program's run takes it, entered and left with the core's debts to the SparseCores as they are.
-/
module

public import proofs.«01_k».proof.Proof.Setup
public import Idealize.ShloMosaic.Lib.Pipeline.FrameBody
public import Idealize.ShloMosaic.Lib.Pipeline.Regions
public import Idealize.ShloMosaic.Lib.Pipeline.ValueKit

@[expose] public section

noncomputable section

namespace Cert.Proof.Seg

open Cert.KernelIdeal Cert.KernelIdeal.Gen
open Idealize.ShloMosaic Idealize.ShloMosaic.TcCoe
open Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 eq_ix1 eq_ix2 eq_ix3)

variable {F : FTy → Type} [FloatOps F]

local notation "𝕄" => MT nD τ sig (HIx 1) (Elt F) ℕ UU ℕ

/-! ## The bodies -/

section Bodies

/-- One store over a whole memref leaves its payload, whatever was there. -/
theorem read_store_whole [∀ e, Nonempty (Elt F e)] {S : Shape} {e : EltTy} {sp : Space} (v : View sig .tc sp S e)
    (f : v.ty.Contents (Elt F)) {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  refine (View.read_writes_eq_canon _ _ _ fun y => ⟨_, List.mem_singleton_self _, ?_⟩).trans (View.canon_unit_zero h inb w)
  subst h
  exact (Rect.mem_set_unit (inb := inb)).mpr fun a => ⟨Nat.zero_le _, by simpa using (y a).isLt⟩

variable [∀ e, Nonempty (Elt F e)] (c : Dev nD)

/-- A load of a whole memref reads its contents. -/
theorem readAt_whole [∀ e, Nonempty (Elt F e)] {S : Shape} {e : EltTy} {sp : Space} (v : View sig .tc sp S e)
    (f : v.ty.Contents (Elt F)) {off : Fin S.rank → Nat} (h : off = fun _ => 0) (inb : ∀ a, off a + S.size a ≤ S.size a) :
    v.readAt (Elt F) (Rect.unit off S.size inb).toLoadRect f = v.read (Elt F) f :=
  View.ld_unit_zero h inb (v.read (Elt F) f)

/-- No offset along either of two axes. -/
theorem zero_off2 : (![0, 0] : Fin 2 → Nat) = fun _ => 0 := by funext a; fin_cases a <;> rfl

/-- The product's body: the three inputs as they were, the block of results at `k0_pay1` of them. -/
theorem mv_body (i : grid0.Coords) (a1 : Memref sig .tc .vmem S1x256 .f32) (h1 : a1.IsWhole) (a2 : Memref sig .tc .vmem S1x1 .f32) (h2 : a2.IsWhole)
    (a3 : Memref sig .tc .vmem S5000x256 .f32) (h3 : a3.IsWhole) (a4 : Memref sig .tc .vmem S1x1x5000 .f32) (h4 : a4.IsWhole)
    (x1 : Vec F S1x256 .f32) (x2 : Vec F S1x1 .f32) (x3 : Vec F S5000x256 .f32) (Q : PUnit → sProp 𝕄) :
    iprop(owns (c : Thread nD τ) a1 fullShare x1 ∗ owns (c : Thread nD τ) a2 fullShare x2 ∗ owns (c : Thread nD τ) a3 fullShare x3
        ∗ (∃ x, owns (c : Thread nD τ) a4 fullShare x)
        ∗ (iprop(owns (c : Thread nD τ) a1 fullShare x1 ∗ owns (c : Thread nD τ) a2 fullShare x2 ∗ owns (c : Thread nD τ) a3 fullShare x3
            ∗ owns (c : Thread nD τ) a4 fullShare (k0_pay1 x1 x3 x2)) -∗ Q ⟨⟩))
      ⊢ wp frame (wpE (defs₀ (F := F)) 𝒱₀ c none) Set.univ (cc0__mv_body i a1 h1 a2 h2 a3 h3 a4 h4) Q := by
  simp only [cc0__mv_body_eq_skeleton]; unfold cc0__mv_body_skel
  unfold owns
  iintro ⟨⟨%f1, %e1, H1⟩, ⟨%f2, %e2, H2⟩, ⟨%f3, %e3, H3⟩, ⟨%x, %f4, -, H4⟩, Hk⟩
  subst e1 e2 e3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (read_store_whole _ _ ?_ _ _).trans ?_
  · funext a; fin_cases a <;> rfl
  rw [readAt_whole _ _ zero_off2, readAt_whole _ _ zero_off2, readAt_whole _ _ zero_off2]

/-- The reduction's body: its input as it was, its result at `k2_pay1` of it. -/
theorem red_body (a0 : Memref sig .tc .vmem S32x10000 .f32) (h0 : a0.IsWhole) (a1 : Memref sig .tc .vmem S1x10000 .f32) (h1 : a1.IsWhole)
    (x0 : Vec F S32x10000 .f32) (Q : PUnit → sProp 𝕄) :
    iprop(owns (c : Thread nD τ) a0 fullShare x0 ∗ (∃ x, owns (c : Thread nD τ) a1 fullShare x)
        ∗ (iprop(owns (c : Thread nD τ) a0 fullShare x0 ∗ owns (c : Thread nD τ) a1 fullShare (k2_pay1 x0)) -∗ Q ⟨⟩))
      ⊢ wp frame (wpE (defs₀ (F := F)) 𝒱₀ c none) Set.univ (cc2__red_body a0 h0 a1 h1) Q := by
  simp only [cc2__red_body_eq_skeleton]; unfold cc2__red_body_skel
  unfold owns
  iintro ⟨⟨%f0, %e0, H0⟩, ⟨%x, %f1, -, H1⟩, Hk⟩
  subst e0
  sl_exec
  sl_step
  iapply Hk
  isplitl [H0]
  · iexists f0; isplitr; · ipureintro; rfl
    iexact H0
  iexists _; isplitr
  swap; · iexact H1
  ipureintro
  refine (read_store_whole _ _ ?_ _ _).trans ?_
  · funext a; fin_cases a <;> rfl
  rw [readAt_whole _ _ zero_off2]

end Bodies

/-! ## The proof data -/

/-- What the two pipelines find in their arrays: the weights as a row and the bias as a single cell, the rows of `x`,
    the partial sums; and whatever the two results' arrays hold before. -/
structure Found (F : FTy → Type) where
  wv : (d : Dev nD) → Buf (Elt F) ((d : Thread nD τ).loc main_v0)
  bv : (d : Dev nD) → Buf (Elt F) ((d : Thread nD τ).loc main_v1)
  xv : (d : Dev nD) → Buf (Elt F) ((d : Thread nD τ).loc main_arg0)
  yv : (d : Dev nD) → Buf (Elt F) ((d : Thread nD τ).loc main_v2)
  pv : (d : Dev nD) → Buf (Elt F) ((d : Thread nD τ).loc main_v3)
  zv : (d : Dev nD) → Buf (Elt F) ((d : Thread nD τ).loc main_v4)

variable (A : Found F)

/-- The product's arrays at entry, -/
def ent0 (c : Dev nD) : (w : Fin cfg0.W) → Buf (Elt F) ((cfg0.win w).arr.view.loc (c : Thread nD τ))
  | ⟨0, _⟩ => A.wv c
  | ⟨1, _⟩ => A.bv c
  | ⟨2, _⟩ => A.xv c
  | ⟨3, _⟩ => A.yv c
/-- the reduction's. -/
def ent2 (c : Dev nD) : (w : Fin cfg2.W) → Buf (Elt F) ((cfg2.win w).arr.view.loc (c : Thread nD τ))
  | ⟨0, _⟩ => A.pv c
  | ⟨1, _⟩ => A.zv c

/-- The block a window of the product finds at a point, -/
def fnd0 (c : Dev nD) (w : Fin cfg0.W) (t : Fin cfg0.N) : (cfg0.win w).block.Idx → Elt F (cfg0.win w).elt :=
  match w with
  | ⟨0, _⟩ => ((cfg0.win 0).blk t).view.read (Elt F) (ent0 A c 0)
  | ⟨1, _⟩ => ((cfg0.win 1).blk t).view.read (Elt F) (ent0 A c 1)
  | ⟨2, _⟩ => ((cfg0.win 2).blk t).view.read (Elt F) (ent0 A c 2)
  | ⟨3, _⟩ => ((cfg0.win 3).blk t).view.read (Elt F) (ent0 A c 3)
/-- a window of the reduction. -/
def fnd2 (c : Dev nD) (w : Fin cfg2.W) (t : Fin cfg2.N) : (cfg2.win w).block.Idx → Elt F (cfg2.win w).elt :=
  match w with
  | ⟨0, _⟩ => ((cfg2.win 0).blk t).view.read (Elt F) (ent2 A c 0)
  | ⟨1, _⟩ => ((cfg2.win 1).blk t).view.read (Elt F) (ent2 A c 1)

/-- The product's data: each input's staging buffer as found, the block of results at `k0_pay1`; the core owes what it
    owes before the call to the SparseCores, having waited below the call's levels only. -/
def dat0 (c : Dev nD) : Dat τ (Elt F) (HIx 1) ℕ UU ℕ cfg0 c where
  A := ent0 A c
  after w t := match w with
    | ⟨0, _⟩ => fnd0 A c 0 t
    | ⟨1, _⟩ => fnd0 A c 1 t
    | ⟨2, _⟩ => fnd0 A c 2 t
    | ⟨3, _⟩ => k0_pay1 (fnd0 A c 0 t) (fnd0 A c 2 t) (fnd0 A c 1 t)
  Φ _ := Pipeline.scopedRest spec0 c
  q _ := fullShare
  owed _ := (K (F := F)).Otc c 0
  recorded _ := {p | (K (F := F)).lev ((T c : Thread nD τ), p.1) p.2 ≤ 8 * 0}

/-- The reduction's: its input as found, its result at `k2_pay1`; the core owes what it owes after the call. -/
def dat2 (c : Dev nD) : Dat τ (Elt F) (HIx 1) ℕ UU ℕ cfg2 c where
  A := ent2 A c
  after w t := match w with
    | ⟨0, _⟩ => fnd2 A c 0 t
    | ⟨1, _⟩ => k2_pay1 (fnd2 A c 0 t)
  Φ _ := Pipeline.scopedRest spec2 c
  q _ := fullShare
  owed _ := (K (F := F)).Otc c 1
  recorded _ := {p | (K (F := F)).lev ((T c : Thread nD τ), p.1) p.2 ≤ 8 * 1}

/-- The two pipelines' data. -/
def dats : (p : Fin 2) → (c : Dev nD) → Dat τ (Elt F) (HIx 1) ℕ UU ℕ (cfgs p) c
  | ⟨0, _⟩ => dat0 A
  | ⟨1, _⟩ => dat2 A

/-! ## What the bodies find and leave -/

section Facts

variable (c : Dev nD)

theorem before0_0 (t : Fin cfg0.N) (d) : (dat0 A c).before 0 t d = fnd0 A c 0 t :=
  ((dat0 A c).before_in_eq_fetched 0 rfl (fun _ => rfl) (fun _ _ _ => rfl) (fun _ => rfl) t d).trans rfl
theorem before0_1 (t : Fin cfg0.N) (d) : (dat0 A c).before 1 t d = fnd0 A c 1 t :=
  ((dat0 A c).before_in_eq_fetched 1 rfl (fun _ => rfl) (fun _ _ _ => rfl) (fun _ => rfl) t d).trans rfl
theorem before0_2 (t : Fin cfg0.N) (d) : (dat0 A c).before 2 t d = fnd0 A c 2 t :=
  ((dat0 A c).before_in_eq_fetched 2 rfl (fun _ => rfl) (fun _ _ _ => rfl) (fun _ => rfl) t d).trans rfl
theorem before2_0 (t : Fin cfg2.N) (d) : (dat2 A c).before 0 t d = fnd2 A c 0 t :=
  ((dat2 A c).before_in_eq_fetched 0 rfl (fun _ => rfl) (fun _ _ _ => rfl) (fun _ => rfl) t d).trans rfl

variable [∀ e, Nonempty (Elt F e)]

theorem obligation0 : BodyObligation (dat0 A c) (defs₀ (F := F)) 𝒱₀ none Set.univ := fun t => by
  rw [bigSep_W0, bigSep_W0]
  rw [show (dat0 A c).Φ t.succ = (dat0 A c).Φ t.castSucc from rfl, show (dat0 A c).owesAt none t.succ = (dat0 A c).owesAt none t.castSucc from rfl]
  generalize (dat0 A c).Φ t.castSucc = Ph
  generalize (dat0 A c).owesAt none t.castSucc = Ow
  have h : (defs₀ (F := F)) .tc cfg0.body (cfg0.bodyArgs t (cfg0.slots t)) = bodyAt0 t := rfl
  rw [h]
  iintro ⟨HP, HO, ⟨%d0, H0⟩, ⟨%d1, H1⟩, ⟨%d2, H2⟩, ⟨%d3, H3⟩⟩
  rw [before0_0, before0_1, before0_2]
  iapply (mv_body c (grid0.coords t) _ _ _ _ _ _ _ _ (fnd0 A c 0 t) (fnd0 A c 1 t) (fnd0 A c 2 t))
  isplitl [H0]; · iexact H0
  isplitl [H1]; · iexact H1
  isplitl [H2]; · iexact H2
  isplitl [H3]; · iexists _; iexact H3
  iintro ⟨H0, H1, H2, H3⟩
  isplitl [HP]; · iexact HP
  isplitl [HO]; · iexact HO
  isplitl [H0]; · iexact H0
  isplitl [H1]; · iexact H1
  isplitl [H2]; · iexact H2
  iexact H3

theorem obligation2 : BodyObligation (dat2 A c) (defs₀ (F := F)) 𝒱₀ none Set.univ := fun t => by
  rw [bigSep_W2, bigSep_W2]
  rw [show (dat2 A c).Φ t.succ = (dat2 A c).Φ t.castSucc from rfl, show (dat2 A c).owesAt none t.succ = (dat2 A c).owesAt none t.castSucc from rfl]
  generalize (dat2 A c).Φ t.castSucc = Ph
  generalize (dat2 A c).owesAt none t.castSucc = Ow
  have h : (defs₀ (F := F)) .tc cfg2.body (cfg2.bodyArgs t (cfg2.slots t)) = bodyAt2 t := rfl
  rw [h]
  iintro ⟨HP, HO, ⟨%d0, H0⟩, ⟨%d1, H1⟩⟩
  rw [before2_0]
  iapply (red_body c _ _ _ _ (fnd2 A c 0 t))
  isplitl [H0]; · iexact H0
  isplitl [H1]; · iexists _; iexact H1
  iintro ⟨H0, H1⟩
  isplitl [HP]; · iexact HP
  isplitl [HO]; · iexact HO
  isplitl [H0]; · iexact H0
  iexact H1

end Facts

/-! ## The regions -/

section Segments

variable [∀ e, Nonempty (Elt F e)]

/-- No table is prefetched. -/
abbrev adm : (p : Fin 2) → (pcfgs (F := F) p).Adm := fun p => (cfgs p).toPCfg_adm

/-- What the core owes the SparseCores `n` calls into the program, its waits so far below the calls' levels. -/
def owing (c : Dev nD) (n : ℕ) : sProp 𝕄 :=
  iprop(∃ W, ⌜(K (F := F)).WBelow (T c) W (8 * n)⌝ ∗ owes (T c : Thread nD τ) ((K (F := F)).Otc c n) W)

/-- The products the first pipeline leaves, -/
def prod (c : Dev nD) : Buf (Elt F) ((c : Thread nD τ).loc main_v2) := (dat0 A c).arrAt 3 cfg0.N
/-- the totals the second leaves. -/
def totals (c : Dev nD) : Buf (Elt F) ((c : Thread nD τ).loc main_v4) := (dat2 A c).arrAt 1 cfg2.N

/-- The product's arrays at the end: the inputs as found. -/
def end0 (c : Dev nD) : (w : Fin cfg0.W) → Buf (Elt F) ((cfg0.win w).arr.view.loc (c : Thread nD τ))
  | ⟨0, _⟩ => A.wv c
  | ⟨1, _⟩ => A.bv c
  | ⟨2, _⟩ => A.xv c
  | ⟨3, _⟩ => prod A c
/-- The reduction's. -/
def end2 (c : Dev nD) : (w : Fin cfg2.W) → Buf (Elt F) ((cfg2.win w).arr.view.loc (c : Thread nD τ))
  | ⟨0, _⟩ => A.pv c
  | ⟨1, _⟩ => totals A c

theorem final0 (c : Dev nD) : (fun w => (dat0 A c).arrAt w cfg0.N) = end0 A c := by
  funext w
  match w with
  | ⟨0, _⟩ => exact (dat0 A c).arrAt_in 0 rfl _
  | ⟨1, _⟩ => exact (dat0 A c).arrAt_in 1 rfl _
  | ⟨2, _⟩ => exact (dat0 A c).arrAt_in 2 rfl _
  | ⟨3, _⟩ => rfl

theorem final2 (c : Dev nD) : (fun w => (dat2 A c).arrAt w cfg2.N) = end2 A c := by
  funext w
  match w with
  | ⟨0, _⟩ => exact (dat2 A c).arrAt_in 0 rfl _
  | ⟨1, _⟩ => rfl

/-- No debt stands at the index of the pipelines' own waits. -/
theorem Otc_none (c : Dev nD) (n : ℕ) (g : GSem nD τ sig) : (K (F := F)).Otc c n g none = 0 := by
  by_contra h
  have := (K (F := F)).lev_of_Otc_pos (Nat.pos_of_ne_zero h)
  rw [(K (F := F)).lev_none] at this
  omega

-- the configurations taken from the family unify only where unification may unfold plain definitions in a type
set_option backward.isDefEq.respectTransparency.types false

theorem arrays0 (c : Dev nD) (f : (w : Fin cfg0.W) → Buf (Elt F) ((cfg0.win w).arr.view.loc (c : Thread nD τ))) :
    (dat0 A c).arrays f = iprop((((c : Thread nD τ).loc main_v0) ↦{fullShare} f 0) ∗ (((c : Thread nD τ).loc main_v1) ↦{fullShare} f 1) ∗ (((c : Thread nD τ).loc main_arg0) ↦{fullShare} f 2) ∗ (((c : Thread nD τ).loc main_v2) ↦{fullShare} f 3)) := by
  unfold Dat.arrays
  refine (bigSep_congr fun w _ => ?_).trans (bigSep_W0 fun w => (((c : Thread nD τ).loc (Pipeline.arrRef spec0 w)) ↦{fullShare} f w))
  rw [show (cfg0.win w).arr.view.set = Finset.univ from (launch0.arr_whole w).set_eq_univ, (dat0 A c).share_full fun _ => rfl]

theorem entry0 (c : Dev nD) : iprop((((c : Thread nD τ).loc main_v0) ↦{fullShare} A.wv c) ∗ (((c : Thread nD τ).loc main_v1) ↦{fullShare} A.bv c) ∗ (((c : Thread nD τ).loc main_arg0) ↦{fullShare} A.xv c) ∗ (((c : Thread nD τ).loc main_v2) ↦{fullShare} A.yv c) ∗ owing c 0)
    ⊢ iprop((dat0 A c).arrays (ent0 A c) ∗ (dat0 A c).owesAt none 0) := by
  rw [arrays0]
  iintro ⟨H0, H1, H2, H3, HO⟩
  isplitl [H0 H1 H2 H3]
  · isplitl [H0]; · iexact H0
    isplitl [H1]; · iexact H1
    isplitl [H2]; · iexact H2
    iexact H3
  unfold owing Pipeline.Dat.owesAt Pipeline.owesWithin
  icases HO with ⟨%W, %hW, HO⟩; iexists W; isplitr
  · ipureintro; exact fun p hp => Or.inl (hW p hp)
  iexact HO

theorem exit0 (c : Dev nD) : iprop((dat0 A c).arrays (fun w => (dat0 A c).arrAt w cfg0.N) ∗ (dat0 A c).owesAt none (Fin.last cfg0.N))
    ⊢ iprop((((c : Thread nD τ).loc main_v0) ↦{fullShare} A.wv c) ∗ (((c : Thread nD τ).loc main_v1) ↦{fullShare} A.bv c) ∗ (((c : Thread nD τ).loc main_arg0) ↦{fullShare} A.xv c) ∗ (((c : Thread nD τ).loc main_v2) ↦{fullShare} prod A c) ∗ owing c 0) := by
  rw [final0, arrays0]
  iintro ⟨⟨H0, H1, H2, H3⟩, HO⟩
  isplitl [H0]; · iexact H0
  isplitl [H1]; · iexact H1
  isplitl [H2]; · iexact H2
  isplitl [H3]; · iexact H3
  unfold owing Pipeline.Dat.owesAt Pipeline.owesWithin
  icases HO with ⟨%W, %hW, HO⟩; iexists W; isplitr
  · ipureintro
    intro p hp
    rcases hW hp with h | ⟨w, s, rfl⟩
    · exact h
    · exact Nat.zero_le _
  iexact HO

/-- The product's region. -/
def reg0 : Pipeline.RegionSeg (pcfgs (F := F)) adm (dats A) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (obligation0 A c).loose
  hwaits c := Pipeline.cellsWaits_intro (Pipeline.pin pcfgs adm) (dats A) none 0 c fun w s t =>
    (K (F := F)).mayWait_none _ fun g => Otc_none c 0 g
  pre c := iprop((((c : Thread nD τ).loc main_v0) ↦{fullShare} A.wv c) ∗ (((c : Thread nD τ).loc main_v1) ↦{fullShare} A.bv c) ∗ (((c : Thread nD τ).loc main_arg0) ↦{fullShare} A.xv c) ∗ (((c : Thread nD τ).loc main_v2) ↦{fullShare} A.yv c) ∗ owing c 0)
  post c := iprop((((c : Thread nD τ).loc main_v0) ↦{fullShare} A.wv c) ∗ (((c : Thread nD τ).loc main_v1) ↦{fullShare} A.bv c) ∗ (((c : Thread nD τ).loc main_arg0) ↦{fullShare} A.xv c) ∗ (((c : Thread nD τ).loc main_v2) ↦{fullShare} prod A c) ∗ owing c 0)
  X _ := iprop(emp)
  Y _ := iprop(emp)
  Z _ := iprop(emp)
  hentry c := by
    iintro ⟨H, -, -⟩
    ihave HA := (entry0 A c) $$ H
    icases HA with ⟨HA, HO⟩
    imodintro
    isplitl [HA]; · iexact HA
    isplitr; · unfold Pipeline.prefHeld; rw [show (Finset.univ : Finset (Fin 0)) = ∅ from rfl, BI.bigSep_empty]; iempintro
    isplitl [HO]; · iexact HO
    isplitr <;> iempintro
  hin c := by
    show _ ⊢ Pipeline.scopedRest spec0 c
    iintro ⟨-, -, H⟩
    iexact H
  hout c := by
    rw [Pipeline.ownSems0_none]
    show Pipeline.scopedRest spec0 c ⊢ _
    iintro H
    isplitr; · iempintro
    isplitr; · iempintro
    iexact H
  hexit c := by
    iintro ⟨HA, HO, -, -⟩
    imodintro
    iapply (exit0 A c)
    isplitl [HA]; · iexact HA
    iexact HO

theorem arrays2 (c : Dev nD) (f : (w : Fin cfg2.W) → Buf (Elt F) ((cfg2.win w).arr.view.loc (c : Thread nD τ))) :
    (dat2 A c).arrays f = iprop((((c : Thread nD τ).loc main_v3) ↦{fullShare} f 0) ∗ (((c : Thread nD τ).loc main_v4) ↦{fullShare} f 1)) := by
  unfold Dat.arrays
  refine (bigSep_congr fun w _ => ?_).trans (bigSep_W2 fun w => (((c : Thread nD τ).loc (Pipeline.arrRef spec2 w)) ↦{fullShare} f w))
  rw [show (cfg2.win w).arr.view.set = Finset.univ from (launch2.arr_whole w).set_eq_univ, (dat2 A c).share_full fun _ => rfl]

theorem entry2 (c : Dev nD) : iprop((((c : Thread nD τ).loc main_v3) ↦{fullShare} A.pv c) ∗ (((c : Thread nD τ).loc main_v4) ↦{fullShare} A.zv c) ∗ owing c 1)
    ⊢ iprop((dat2 A c).arrays (ent2 A c) ∗ (dat2 A c).owesAt none 0) := by
  rw [arrays2]
  iintro ⟨H0, H1, HO⟩
  isplitl [H0 H1]
  · isplitl [H0]; · iexact H0
    iexact H1
  unfold owing Pipeline.Dat.owesAt Pipeline.owesWithin
  icases HO with ⟨%W, %hW, HO⟩; iexists W; isplitr
  · ipureintro; exact fun p hp => Or.inl (hW p hp)
  iexact HO

theorem exit2 (c : Dev nD) : iprop((dat2 A c).arrays (fun w => (dat2 A c).arrAt w cfg2.N) ∗ (dat2 A c).owesAt none (Fin.last cfg2.N))
    ⊢ iprop((((c : Thread nD τ).loc main_v3) ↦{fullShare} A.pv c) ∗ (((c : Thread nD τ).loc main_v4) ↦{fullShare} totals A c) ∗ owing c 1) := by
  rw [final2, arrays2]
  iintro ⟨⟨H0, H1⟩, HO⟩
  isplitl [H0]; · iexact H0
  isplitl [H1]; · iexact H1
  unfold owing Pipeline.Dat.owesAt Pipeline.owesWithin
  icases HO with ⟨%W, %hW, HO⟩; iexists W; isplitr
  · ipureintro
    intro p hp
    rcases hW hp with h | ⟨w, s, rfl⟩
    · exact h
    · exact Nat.zero_le _
  iexact HO

/-- The reduction's region. -/
def reg2 : Pipeline.RegionSeg (pcfgs (F := F)) adm (dats A) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (obligation2 A c).loose
  hwaits c := Pipeline.cellsWaits_intro (Pipeline.pin pcfgs adm) (dats A) none 1 c fun w s t =>
    (K (F := F)).mayWait_none _ fun g => Otc_none c 1 g
  pre c := iprop((((c : Thread nD τ).loc main_v3) ↦{fullShare} A.pv c) ∗ (((c : Thread nD τ).loc main_v4) ↦{fullShare} A.zv c) ∗ owing c 1)
  post c := iprop((((c : Thread nD τ).loc main_v3) ↦{fullShare} A.pv c) ∗ (((c : Thread nD τ).loc main_v4) ↦{fullShare} totals A c) ∗ owing c 1)
  X _ := iprop(emp)
  Y _ := iprop(emp)
  Z _ := iprop(emp)
  hentry c := by
    iintro ⟨H, -, -⟩
    ihave HA := (entry2 A c) $$ H
    icases HA with ⟨HA, HO⟩
    imodintro
    isplitl [HA]; · iexact HA
    isplitr; · unfold Pipeline.prefHeld; rw [show (Finset.univ : Finset (Fin 0)) = ∅ from rfl, BI.bigSep_empty]; iempintro
    isplitl [HO]; · iexact HO
    isplitr <;> iempintro
  hin c := by
    show _ ⊢ Pipeline.scopedRest spec2 c
    iintro ⟨-, -, H⟩
    iexact H
  hout c := by
    rw [Pipeline.ownSems0_none]
    show Pipeline.scopedRest spec2 c ⊢ _
    iintro H
    isplitr; · iempintro
    isplitr; · iempintro
    iexact H
  hexit c := by
    iintro ⟨HA, HO, -, -⟩
    imodintro
    iapply (exit2 A c)
    isplitl [HA]; · iexact HA
    iexact HO

theorem reg0_pre (c : Dev nD) : iprop((((c : Thread nD τ).loc main_v0) ↦{fullShare} A.wv c) ∗ (((c : Thread nD τ).loc main_v1) ↦{fullShare} A.bv c) ∗ (((c : Thread nD τ).loc main_arg0) ↦{fullShare} A.xv c) ∗ (((c : Thread nD τ).loc main_v2) ↦{fullShare} A.yv c) ∗ owing c 0)
    ⊢ (reg0 A).pre c := .rfl
theorem reg0_post (c : Dev nD) : (reg0 A).post c
    ⊢ iprop((((c : Thread nD τ).loc main_v0) ↦{fullShare} A.wv c) ∗ (((c : Thread nD τ).loc main_v1) ↦{fullShare} A.bv c) ∗ (((c : Thread nD τ).loc main_arg0) ↦{fullShare} A.xv c) ∗ (((c : Thread nD τ).loc main_v2) ↦{fullShare} prod A c) ∗ owing c 0) := .rfl

theorem reg2_pre (c : Dev nD) : iprop((((c : Thread nD τ).loc main_v3) ↦{fullShare} A.pv c) ∗ (((c : Thread nD τ).loc main_v4) ↦{fullShare} A.zv c) ∗ owing c 1)
    ⊢ (reg2 A).pre c := .rfl
theorem reg2_post (c : Dev nD) : (reg2 A).post c
    ⊢ iprop((((c : Thread nD τ).loc main_v3) ↦{fullShare} A.pv c) ∗ (((c : Thread nD τ).loc main_v4) ↦{fullShare} totals A c) ∗ owing c 1) := .rfl

end Segments

end Cert.Proof.Seg

end
-- ==== Proof.Main.lean ====
/-
  The run of the whole program: the weights and the bias reshaped, the product's pipeline, the call to the SparseCores,
  the reduction's pipeline, the result reshaped. Every execution ends, the arguments are as they were, and the result's
  array holds the totals of the tiles' sums of the products.
-/
module

public import proofs.«01_k».proof.Proof.Tile
public import proofs.«01_k».proof.Proof.Regions

@[expose] public section

noncomputable section

namespace Cert.Proof.Seg

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.ValueIdx (ix1 ix2 ix3 eq_ix1 eq_ix2 eq_ix3)

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-! ## What the arrays hold along the way -/

/-- Up to the call: the weights as a row, the bias as a cell, `x`; the rest as launched. -/
def A0 : Found F where
  wv d := shapeCast S1x256 (m ((d : Thread nD τ).loc main_arg2)) shapeCasts_S256x1_S1x256
  bv d := shapeCast S1x1 (m ((d : Thread nD τ).loc main_arg3)) shapeCasts_S1_S1x1
  xv d := m ((d : Thread nD τ).loc main_arg0)
  yv d := m ((d : Thread nD τ).loc main_v2)
  pv d := m ((d : Thread nD τ).loc main_v3)
  zv d := m ((d : Thread nD τ).loc main_v4)

/-- The products. -/
abbrev Yv (d : Dev nD) : Buf (Elt F) (yLoc d) := prod (A0 m) d

/-- After the call: the partial sums written. -/
def A1 : Found F := { A0 m with pv := fun d => Pv m (Yv m) d }

/-- The result. -/
def out (d : Dev nD) : Buf (Elt F) ((d : Thread nD τ).loc main_v5) :=
  shapeCast S10000x1 (totals (A1 m) d) shapeCasts_S1x10000_S10000x1

/-! ## The launch element -/

def u₀ : UU := (initOf (K (F := F)).hsCells (K (F := F)).hsToks,
  (initOf (Pipeline.cells (nD := nD) (τ := τ) cfgs cellOf_inj) (Pipeline.launchToks (nD := nD) (τ := τ) cfgs cellOf_inj), 1))

/-- What each TensorCore is given of it: its two pipelines' transfers. -/
def G (d : Dev nD) : sProp 𝕄 :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

theorem nothing {I : Type} (s : Finset I) : (bigSep s fun _ => (iprop(emp) : sProp 𝕄)) = iprop(emp) := bigSep_emp_const s

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m (Yv m)).x q thr) := by
  unfold u₀
  iintro Hu
  ihave H := (ownU_pair _ _) $$ Hu
  icases H with ⟨HH, HR⟩
  ihave H2 := (own_pair_emb embR _ _) $$ HR
  icases H2 with ⟨HP, -⟩
  ihave HP := (show (BI.own (((Emb.inl : Emb (UR sig nD τ) (UR sig nD τ × Counters)).trans embR) (initOf (Pipeline.cells (nD := nD) (τ := τ) cfgs cellOf_inj) (Pipeline.launchToks (nD := nD) (τ := τ) cfgs cellOf_inj))) : sProp 𝕄)
    ⊢ BI.own ((EP (F := F)) (initOf (Pipeline.cells (nD := nD) (τ := τ) cfgs cellOf_inj) (Pipeline.launchToks (nD := nD) (τ := τ) cfgs cellOf_inj))) from .rfl) $$ HP
  imod (Pipeline.fund_ghost cfgs (EP (F := F)) cellOf_inj) $$ HP with ⟨Hg, Ht⟩
  imodintro
  isplitl [HH]; · iexact HH
  isplitl [Hg Ht]
  · unfold G
    rw [bigSep_sep']
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => nothing _, nothing]]
  iempintro

/-! ## The steps of @main -/

/-- A reshape at the head of the program: the operand's array as it was, the result's at the operand's elements in order. -/
theorem wp_reshape (d : Dev nD) (x y : Ref sig .tc) (hxy : x ≠ y) (he : x.ty.elt = y.ty.elt) (hn : x.ty.shape.ShapeCasts y.ty.shape)
    (hx : x.space ≠ .host ∧ (x : DevRef τ sig).isScoped = false) (hy : y.space ≠ .host ∧ (y : DevRef τ sig).isScoped = false)
    (f : Buf (Elt F) ((d : Thread nD τ).loc x)) (g : Buf (Elt F) ((d : Thread nD τ).loc y)) (Q : PUnit → sProp 𝕄) :
    iprop(boundary (T d) ∗ (((d : Thread nD τ).loc x) ↦{fullShare} f) ∗ (((d : Thread nD τ).loc y) ↦{fullShare} g)
        ∗ ((boundary (T d) ∗ (((d : Thread nD τ).loc x) ↦{fullShare} f)
            ∗ (((d : Thread nD τ).loc y) ↦{fullShare} ((fun i => he ▸ shapeCast y.ty.shape f hn i) : Buf (Elt F) ((d : Thread nD τ).loc y)))) -∗ Q ⟨⟩))
      ⊢ wp frame (wpE ((K (F := F)).defs (D (F := F))) 𝒱 (T d) none) Set.univ
          (hlo rfl (StableHlo.reshape x y he hn hx hy) (fun _ => .ret ⟨⟩)) Q := by
  have hne : (Proc.devRef .tc x : DevRef τ sig) ≠ Proc.devRef .tc y := StableHlo.devRef_ne_of_ne hxy
  have hheld : ∀ W : Valuation τ sig (Elt F), (held (T d) ({Proc.devRef .tc x, Proc.devRef .tc y} : Finset (DevRef τ sig)) W : sProp 𝕄)
      = iprop((((d : Thread nD τ).loc x) ↦{fullShare} W (Proc.devRef .tc x)) ∗ (((d : Thread nD τ).loc y) ↦{fullShare} W (Proc.devRef .tc y))) := fun W => by
    unfold held
    rw [SparseCore.bigSep_insert' (by rw [Finset.mem_singleton]; exact hne), bigSep_singleton]
  let W0 : Valuation τ sig (Elt F) := fun b => Classical.choice inferInstance
  let W1 : Valuation τ sig (Elt F) := Function.update (Function.update W0 (Proc.devRef .tc x) f) (Proc.devRef .tc y) g
  have h1x : W1 (Proc.devRef .tc x) = f := by
    show Function.update _ _ _ _ = _
    rw [Function.update_of_ne hne, Function.update_self]
  have h1y : W1 (Proc.devRef .tc y) = g := Function.update_self _ _ _
  have hafter : (held (T d) ({Proc.devRef .tc x, Proc.devRef .tc y} : Finset (DevRef τ sig)) ((StableHlo.reshape x y he hn hx hy).result W1) : sProp 𝕄)
      = iprop((((d : Thread nD τ).loc x) ↦{fullShare} f)
        ∗ (((d : Thread nD τ).loc y) ↦{fullShare} ((fun i => he ▸ shapeCast y.ty.shape f hn i) : Buf (Elt F) ((d : Thread nD τ).loc y)))) := by
    rw [hheld, StableHlo.reshape_result, StableHlo.reshape_result_ne _ _ _ _ _ _ _ hxy, h1x]
  iintro ⟨Hb, Hx, Hy, Hk⟩
  iapply (wp_hlo_within 𝒱 (T d) none Set.univ (op := StableHlo.reshape x y he hn hx hy) (S := {Proc.devRef .tc x, Proc.devRef .tc y}) (Finset.Subset.refl _) (V := W1)) $$ [Hb Hx Hy]
  · isplitl [Hb]; · iexact Hb
    rw [hheld, h1x, h1y]
    isplitl [Hx]; · iexact Hx
    iexact Hy
  iintro ⟨Hb, Hh⟩
  ihave Hh := (Entails.of_eq hafter) $$ Hh
  icases Hh with ⟨Hx, Hy⟩
  rw [wp_ret]; imodintro
  iapply Hk
  isplitl [Hb]; · iexact Hb
  isplitl [Hx]; · iexact Hx
  iexact Hy

/-- A pipeline's call in the program: the region's step, its level facts from the calls' context. -/
theorem wp_region (A : Found F) (p : Fin 2) (R : Pipeline.RegionSeg (pcfgs (F := F)) adm (dats A) none defs₀ 𝒱₀ (K (F := F)).L (K (F := F)).lev p)
    (d : Dev nD) (Q : PUnit → sProp 𝕄) :
    iprop((iprop(boundary (T d) ∗ R.post d) -∗ Q ⟨⟩) ∗ boundary (T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (T d) none) Set.univ
          (Prog.lift (.customCall (SparseCore.inner (Pipeline.entry p)) ())) Q := by
  refine BIBase.Entails.trans ?_ ((K (F := F)).wp_liftProg (D (F := F)) 𝒱 (T d) Set.univ none (.op (.customCall (Pipeline.entry p) ()) fun u => .ret u) Q)
  refine BIBase.Entails.trans ?_ (Pipeline.RegionSeg.wp pcfgs adm (dats A) none cellOf_inj EP defs₀ 𝒱₀ (K (F := F)).L (K (F := F)).lev R d none (fun u h => nomatch h) (fun u => .ret u) Q)
  iintro ⟨Hk, Hb, Hp, Hl, Hg, Ht⟩
  isplitl [Hk]
  · iintro H
    rw [wp_ret]; imodintro
    iapply Hk
    iexact H
  isplitl [Hb]; · iexact Hb
  isplitl [Hp]; · iexact Hp
  isplitl [Hl]; · iexact Hl
  isplitl [Hg]; · iexact Hg
  iexact Ht

/-! ## @main -/

/-- The arrays @main uses. -/
theorem arrays_list (d : Dev nD) (W : (b : Ref sig .tc) → Buf (Elt F) ((d.tc : Thread nD τ).loc b)) :
    (unscopedBufs d W : sProp 𝕄) = iprop((((d : Thread nD τ).loc main_arg0) ↦{fullShare} W main_arg0) ∗ (((d : Thread nD τ).loc main_arg1) ↦{fullShare} W main_arg1)
      ∗ (((d : Thread nD τ).loc main_arg2) ↦{fullShare} W main_arg2) ∗ (((d : Thread nD τ).loc main_arg3) ↦{fullShare} W main_arg3)
      ∗ (((d : Thread nD τ).loc main_v0) ↦{fullShare} W main_v0) ∗ (((d : Thread nD τ).loc main_v1) ↦{fullShare} W main_v1)
      ∗ (((d : Thread nD τ).loc main_v2) ↦{fullShare} W main_v2) ∗ (((d : Thread nD τ).loc main_v3) ↦{fullShare} W main_v3)
      ∗ (((d : Thread nD τ).loc main_v4) ↦{fullShare} W main_v4) ∗ (((d : Thread nD τ).loc main_v5) ↦{fullShare} W main_v5)) := by
  unfold unscopedBufs
  rw [show (Finset.univ.filter fun b : Ref sig .tc => ¬ b.isScoped)
      = {main_arg0, main_arg1, main_arg2, main_arg3, main_v0, main_v1, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- What @main leaves: the arguments as launched, the result. -/
abbrev FIN (d : Dev nD) : sProp 𝕄 :=
  iprop((((d : Thread nD τ).loc main_arg0) ↦{fullShare} m ((d : Thread nD τ).loc main_arg0)) ∗ (((d : Thread nD τ).loc main_arg1) ↦{fullShare} m ((d : Thread nD τ).loc main_arg1))
    ∗ (((d : Thread nD τ).loc main_arg2) ↦{fullShare} m ((d : Thread nD τ).loc main_arg2)) ∗ (((d : Thread nD τ).loc main_arg3) ↦{fullShare} m ((d : Thread nD τ).loc main_arg3))
    ∗ (((d : Thread nD τ).loc main_v5) ↦{fullShare} out m d))

/-- What the core owes, and the rest of its standing with the SparseCores. -/
def standing (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) : ((K (F := F)).tcSt EH d n : sProp 𝕄) = iprop(owing d n ∗ standing d n) := rfl

attribute [local irreducible] acc in
theorem hmain (κ : GSem nD τ sig → ℕ) (d : Dev nD) :
    iprop((K (F := F)).ctx EH (P m (Yv m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [arrays_list, tcSt_eq, tcSt_eq, show (Finset.univ : Finset (Fin 2)) = {0, 1} by decide, SparseCore.bigSep_insert' (by decide), bigSep_singleton,
    SparseCore.bigSep_insert' (by decide), bigSep_singleton]
  simp only [main, wp_bind, wp_pure]
  iintro ⟨#Hctx, ⟨HO, Hst⟩, ⟨Hb, ⟨Ha0, Ha1, Ha2, Ha3, Hv0, Hv1, Hv2, Hv3, Hv4, Hv5⟩, Hts, -⟩, ⟨Hg0, Hg1⟩, Ht0, Ht1⟩
  ihave #Hlev := (SparseCore.Cfg.ctx_levAts κ) $$ Hctx
  -- the weights and the bias reshaped
  iapply (wp_reshape d main_arg2 main_v0 (by decide) rfl shapeCasts_S256x1_S1x256 _ _ (m ((d : Thread nD τ).loc main_arg2)) (m ((d : Thread nD τ).loc main_v0)))
  isplitl [Hb]; · iexact Hb
  isplitl [Ha2]; · iexact Ha2
  isplitl [Hv0]; · iexact Hv0
  iintro ⟨Hb, Ha2, Hv0⟩
  iapply (wp_reshape d main_arg3 main_v1 (by decide) rfl shapeCasts_S1_S1x1 _ _ (m ((d : Thread nD τ).loc main_arg3)) (m ((d : Thread nD τ).loc main_v1)))
  isplitl [Hb]; · iexact Hb
  isplitl [Ha3]; · iexact Ha3
  isplitl [Hv1]; · iexact Hv1
  iintro ⟨Hb, Ha3, Hv1⟩
  -- the products
  iapply (wp_region (A0 m) 0 (reg0 (A0 m)) d)
  isplitr [Hb Hv0 Hv1 Ha0 Hv2 HO Hg0 Ht0]
  swap
  · isplitl [Hb]; · iexact Hb
    isplitl [Hv0 Hv1 Ha0 Hv2 HO]
    · iapply (reg0_pre (A0 m) d)
      isplitl [Hv0]; · iexact Hv0
      isplitl [Hv1]; · iexact Hv1
      isplitl [Ha0]; · iexact Ha0
      isplitl [Hv2]; · iexact Hv2
      iexact HO
    isplitr; · iexact Hlev
    isplitl [Hg0]; · iexact Hg0
    iexact Ht0
  iintro ⟨Hb, Hp⟩
  ihave Hp := (reg0_post (A0 m) d) $$ Hp
  icases Hp with ⟨Hv0, Hv1, Ha0, Hv2, HO⟩
  -- the call to the SparseCores
  iapply ((K (F := F)).wp_run (D (F := F)) 𝒱 (EH := EH) (P := P m (Yv m)) κ d 0)
  isplitr; · iexact Hctx
  isplitl [HO Hst]
  · iapply (show iprop(owing d 0 ∗ standing d 0) ⊢ (K (F := F)).tcSt EH d (0 : Fin 1).val from .rfl)
    isplitl [HO]; · iexact HO
    iexact Hst
  isplitl [Ha1 Hv2 Hv3]
  · iapply (Entails.of_eq (deal_in m (Yv m) d))
    isplitl [Ha1]; · iexact Ha1
    isplitl [Hv2]; · iexact Hv2
    iexact Hv3
  iintro ⟨Hst, Hdn⟩
  ihave Hdn := (Entails.of_eq (deal_out m (Yv m) d)) $$ Hdn
  icases Hdn with ⟨Ha1, Hv2, Hv3⟩
  ihave Hst := (show (K (F := F)).tcSt EH d ((0 : Fin 1).val + 1) ⊢ iprop(owing d 1 ∗ standing d 1) from .rfl) $$ Hst
  icases Hst with ⟨HO, Hst⟩
  -- the totals
  iapply (wp_region (A1 m) 1 (reg2 (A1 m)) d)
  isplitr [Hb Hv3 Hv4 HO Hg1 Ht1]
  swap
  · isplitl [Hb]; · iexact Hb
    isplitl [Hv3 Hv4 HO]
    · iapply (reg2_pre (A1 m) d)
      isplitl [Hv3]; · iexact Hv3
      isplitl [Hv4]; · iexact Hv4
      iexact HO
    isplitr; · iexact Hlev
    isplitl [Hg1]; · iexact Hg1
    iexact Ht1
  iintro ⟨Hb, Hp⟩
  ihave Hp := (reg2_post (A1 m) d) $$ Hp
  icases Hp with ⟨Hv3, Hv4, HO⟩
  -- the result reshaped
  iapply (wp_reshape d main_v4 main_v5 (by decide) rfl shapeCasts_S1x10000_S10000x1 _ _ (totals (A1 m) d) (m ((d : Thread nD τ).loc main_v5)))
  isplitl [Hb]; · iexact Hb
  isplitl [Hv4]; · iexact Hv4
  isplitl [Hv5]; · iexact Hv5
  iintro ⟨Hb, Hv4, Hv5⟩
  imodintro
  isplitl [HO Hst]
  · isplitl [HO]; · iexact HO
    iexact Hst
  isplitr [Hb Hts]
  · isplitl [Ha0]; · iexact Ha0
    isplitl [Ha1]; · iexact Ha1
    isplitl [Ha2]; · iexact Ha2
    isplitl [Ha3]; · iexact Ha3
    iexact Hv5
  isplitl [Hb] <;> iassumption

/-! ## The run -/

def fq (d : Dev nD) (s' : Phys nD τ sig (Elt F)) : Prop :=
  (s'.mem.mem ((d : Thread nD τ).loc main_arg0) = m ((d : Thread nD τ).loc main_arg0) ∧ s'.mem.mem ((d : Thread nD τ).loc main_arg1) = m ((d : Thread nD τ).loc main_arg1)
    ∧ s'.mem.mem ((d : Thread nD τ).loc main_arg2) = m ((d : Thread nD τ).loc main_arg2) ∧ s'.mem.mem ((d : Thread nD τ).loc main_arg3) = m ((d : Thread nD τ).loc main_arg3))
    ∧ s'.mem.mem ((d : Thread nD τ).loc main_v5) = out m d

theorem hfin (d : Dev nD) (s' : Phys nD τ sig (Elt F)) : iprop(FIN m d ∗ SI s') ⊢ (⌜fq m d s'⌝ : sProp 𝕄) := by
  iintro ⟨⟨H0, H1, H2, H3, H5⟩, HSI⟩
  icombine HSI H0 gives %h0
  icombine HSI H1 gives %h1
  icombine HSI H2 gives %h2
  icombine HSI H3 gives %h3
  icombine HSI H5 gives %h5
  ipureintro
  exact ⟨⟨Buf.eq_of_forall_mem_univ h0, Buf.eq_of_forall_mem_univ h1, Buf.eq_of_forall_mem_univ h2, Buf.eq_of_forall_mem_univ h3⟩, Buf.eq_of_forall_mem_univ h5⟩

/-- After the run: the arguments as launched, the result, every semaphore at zero. -/
def QC : PUnit × MemSt nD τ sig (Elt F) → Prop := fun r =>
  (∀ c : Dev nD, (r.2.mem ((c : Thread nD τ).loc main_arg0) = m ((c : Thread nD τ).loc main_arg0) ∧ r.2.mem ((c : Thread nD τ).loc main_arg1) = m ((c : Thread nD τ).loc main_arg1)
    ∧ r.2.mem ((c : Thread nD τ).loc main_arg2) = m ((c : Thread nD τ).loc main_arg2) ∧ r.2.mem ((c : Thread nD τ).loc main_arg3) = m ((c : Thread nD τ).loc main_arg3))
    ∧ r.2.mem ((c : Thread nD τ).loc main_v5) = out m c) ∧ r.2.sem = fun _ => 0

theorem run_main (hids : ∀ d n, idAt (ids m d) n < 10000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (Yv m)) (A := ∅) facts v₀
    (fun q hq => match q with | 0 => nomatch hq)
    (fun q _ => match q with | 0 => tileObl m (Yv m) facts hids)
    (fun q _ => match q with | 0 => SparseCore.Cfg.VecSplit.of_plain (vecSplit m (Yv m)))
    m ρ main G (FIN m) (u₀ (F := F)) (sep_elim_left.trans (hu₀ m)) (hmain m ρ) (fq m) (hfin m) (QC m) (fun _ h hz => ⟨h, hz⟩)

end Cert.Proof.Seg

end
-- ==== Proof.Frames.lean ====
/-
  The frames: of the index range the precondition states, that every index is below the count of segments; and the frames
  of the kernel at either instance, from its one run, and of the reference, which has no semaphore.
-/
module

public import proofs.«01_k».proof.Defs
public import proofs.«01_k».proof.Proof.Main
public import proofs.«01_k».proof.Proof.Gen.Kernel
public import proofs.«01_k».proof.Proof.Gen.ReferenceIdeal
public import proofs.«01_k».proof.Proof.Gen.ReferenceIdeal.Run
public import proofs.«01_k».proof.Proof.Gen.Pre_in_range
public import Idealize.ShloMosaic.Lib.Quiescent

@[expose] public section

noncomputable section

namespace Cert.Proof.Seg

open Idealize.ShloMosaic Idealize.ShloMosaic.TcCoe
open Idealize.SL Idealize.SL.Sem
open Idealize.ShloMosaic.ValueIdx (ix1 ix2 ix3 eq_ix1 eq_ix2 eq_ix3)

/-- A conjunction over a list that comes out true has every member true. -/
theorem foldl_andi {α : Type} (f : α → BitVec 1) : ∀ (l : List α) (b : BitVec 1),
    l.foldl (fun r n => IntOp.andi r (f n)) b = 1#1 → b = 1#1 ∧ ∀ n ∈ l, f n = 1#1
  | [], b, h => ⟨h, fun _ hn => nomatch hn⟩
  | a :: l, b, h => by
    obtain ⟨hb, hl⟩ := foldl_andi f l (IntOp.andi b (f a)) h
    have both : ∀ x y : BitVec 1, IntOp.andi x y = 1#1 → x = 1#1 ∧ y = 1#1 := by unfold IntOp.andi; decide
    obtain ⟨h1, h2⟩ := both _ _ hb
    refine ⟨h1, fun n hn => ?_⟩
    rcases List.mem_cons.1 hn with rfl | hn
    · exact h2
    · exact hl n hn

/-- A word within the range, signed, is one below the bound, unsigned. -/
theorem word_lt (v : BitVec 32) (e : IntOp.andi (IntOp.cmpi .sge v 0#32) (IntOp.cmpi .slt v 10000#32) = 1#1) :
    v.toNat < 10000 := by
  have conj : ∀ x y : Bool, IntOp.andi (BitVec.ofBool x) (BitVec.ofBool y) = 1#1 → x = true ∧ y = true := by
    unfold IntOp.andi; decide
  obtain ⟨h1, h2⟩ := conj _ _ e
  simp only [BitVec.sle_eq_decide, BitVec.slt_eq_decide, decide_eq_true_eq, BitVec.toInt_eq_toNat_cond,
    BitVec.toNat_ofNat, Nat.reducePow, Nat.reduceMod] at h1 h2
  omega

section

variable {F : FTy → Type} [FloatOps F]

/-- The precondition: every index is in range. -/
theorem in_range (a0 : FVec F Cert.Pre_in_range.S160000x256 .f32) (a1 : IVec Cert.Pre_in_range.S160000 32)
    (a2 : FVec F Cert.Pre_in_range.S256x1 .f32) (a3 : FVec F Cert.Pre_in_range.S1 .f32)
    (h : Cert.Pre_in_range.fn a0 a1 a2 a3 = fun _ => 1#1) (j : Cert.Pre_in_range.S160000.Idx) : (a1 j).toNat < 10000 := by
  have h0 := congrFun h (fun a => a.elim0)
  obtain ⟨-, hall⟩ := foldl_andi _ _ _ h0
  have := hall (Cert.Pre_in_range.S160000.rowMajor j) (List.mem_filter.2 ⟨List.mem_finRange _, by
    simp only [decide_eq_true_eq]; exact funext fun a => a.elim0⟩)
  simp only [Equiv.symm_apply_apply] at this
  exact word_lt _ this

variable (m : (ℓ : Loc Cert.KernelIdeal.nD Cert.KernelIdeal.τ Cert.KernelIdeal.sig) → Buf (Elt F) ℓ)

theorem ids_lt (h : ∀ c : Dev Cert.KernelIdeal.nD, Cert.Pre_in_range.fn (F := F)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) = fun _ => 1#1)
    (d : Dev Cert.KernelIdeal.nD) (n : ℕ) : idAt (ids m d) n < 10000 := by
  unfold idAt
  split
  · exact in_range _ _ _ _ (h d) _
  · omega

end

/-- The two prints of the kernel are one text: their bodies agree label by label. -/
theorem bodies_eq : Cert.Kernel.defs₀ (F := Bits) = Cert.KernelIdeal.defs₀ (F := Bits) := by
  funext k l a
  cases k with
  | tc =>
    match l, a with
    | 0, (_, _) => rfl
    | 1, _ => rfl
    | 2, (_, _) => rfl
  | _ =>
    match l with
    | 0 => rfl
    | 1 => rfl
    | 2 => rfl

theorem defs_eq : Cert.Kernel.defs (F := Bits) = Cert.KernelIdeal.defs (F := Bits) :=
  congrArg (fun D => Cert.KernelIdeal.sc.defs (Pipeline.defs (Cert.KernelIdeal.pcfgs (F := Bits)) D)) bodies_eq

theorem frame_kernel : Cert.quiescent_Kernel := fun m ρ hpre =>
  (congrArg (fun D => θ_run D (Cert.KernelIdeal.threads (F := Bits)) ⟨m, fun _ => 0, ρ⟩ _) defs_eq).mpr
    ((θ_run Cert.KernelIdeal.defs _ _).mono (fun _ h => ⟨fun c => (h.1 c).1, h.2⟩)
      (run_main (F := Bits) m ρ (ids_lt (F := Bits) m hpre)))

theorem frame_ideal : Cert.quiescent_KernelIdeal := fun m ρ hpre =>
  (θ_run Cert.KernelIdeal.defs _ _).mono (fun _ h => ⟨fun c => (h.1 c).1, h.2⟩)
    (run_main (F := Ideal) m ρ (ids_lt (F := Ideal) m hpre))

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

theorem frame_reference_in_range : Cert.quiescent_ReferenceIdeal_pre_in_range := fun m ρ _ =>
  frame_reference m ρ trivial

end Cert.Proof.Seg

end
-- ==== Proof.Totals.lean ====
/-
  The reference's totals over the reals: of each molecule, the sum over all atoms of the energies of those that are its
  own.
-/
module

public import proofs.«01_k».proof.ReferenceIdeal
public import proofs.«01_k».proof.Proof.Gen.ReferenceIdeal
public import Idealize.ShloMosaic.PureOps.Ideal
public import Idealize.ShloMosaic.PureOps.Ideal.Laws
public import Idealize.ShloMosaic.Lib.StackMember
public import Idealize.ShloMosaic.Lib.Routing.OpsPair

@[expose] public section

noncomputable section

namespace Cert.Proof.Totals

open Cert.ReferenceIdeal Cert.ReferenceIdeal.Gen
open Idealize.ShloMosaic
open Idealize.ShloMosaic.ValueIdx (ix1 ix2 ix3 eq_ix1 eq_ix2 eq_ix3)

variable (x : FVec Ideal S160000x256 .f32) (I : IVec S160000 32) (W : FVec Ideal S256x1 .f32) (b : FVec Ideal S1 .f32)

/-- The atoms' energies. -/
def energies : FVec Ideal S160000x1 .f32 :=
  addf (Host.dotGeneral dot_S160000x256_S256x1_S160000x1_1_0_0_1_n_n none x W)
    (broadcastInDim S160000x1 ![0, 1] bcast_S1x1_S160000x1_0_1 (broadcastInDim S1x1 ![1] bcast_S1_S1x1_1 b))

/-- The indices, a column. -/
def column : IVec S160000x1 32 := broadcastInDim S160000x1 ![0] bcast_S160000_S160000x1_0 I

/-- Their sums by molecule. -/
def sums : FVec Ideal S10000x1 .f32 :=
  Host.scatterAdd scatter_S10000x1_S160000x1_S160000x1_1_0_0_1
    (broadcastInDim S10000x1 ![] bcast_S_S10000x1 (constant S_ .f32 0x00000000#32)) (column I) (energies x W b)

/-- The reference's result. -/
def result : FVec Ideal S10000x1 .f32 :=
  broadcastInDim S10000x1 ![0] bcast_S10000_S10000x1_0
    (Host.reduceAdd (sums x I W b) (constant S_ .f32 0x00000000#32) reducesTo_S10000x1_S10000_d1 h_S_)

theorem energies_apply (i : Fin 160000) :
    energies x W b (ix2 i (0 : Fin 1)) = (∑ j : Fin 256, x (ix2 i j) * W (ix2 j (0 : Fin 1))) + b (ix1 (0 : Fin 1)) := by
  refine congrArg₂ (· + ·) (StackMember.dotGeneral_plain_apply (m := 160000) (k := 256) (n := 1) none x W i 0) ?_
  refine (broadcastInDim_apply _ _ _ _ (ix2 (0 : Fin 1) (0 : Fin 1) : S1x1.Idx) ?_).trans
    (broadcastInDim_apply _ _ _ _ (ix1 (0 : Fin 1) : S1.Idx) ?_)
  · intro a; match a with | ⟨0, _⟩ => rfl | ⟨1, _⟩ => rfl
  · intro a; match a with | ⟨0, _⟩ => rfl

theorem column_apply (i : Fin 160000) : column I (ix2 i (0 : Fin 1)) = I (ix1 i) := by
  refine broadcastInDim_apply _ _ _ _ (ix1 i : S160000.Idx) ?_
  intro a; match a with | ⟨0, _⟩ => rfl

/-- An atom's energy goes to the molecule that its index names. -/
theorem lands (hI : ∀ j, (I j).toNat < 10000) (i : Fin 160000) (n : Fin 10000) :
    scatter_S10000x1_S160000x1_S160000x1_1_0_0_1.resultIdx? (ix2 i (0 : Fin 1) : S160000x1.Idx) (column I) = some (ix2 n (0 : Fin 1) : S10000x1.Idx)
      ↔ (I (ix1 i)).toNat = n.val := by
  have h0 : scatter_S10000x1_S160000x1_S160000x1_1_0_0_1.start (ix2 i (0 : Fin 1) : S160000x1.Idx) (column I) 0 = (I (ix1 i)).toInt := by
    refine (congrArg BitVec.toInt ?_ : BitVec.toInt (column I _) = _)
    refine (congrArg (column I) (?_ : _ = (ix2 i (0 : Fin 1) : S160000x1.Idx))).trans (column_apply I i)
    funext a
    match a with | ⟨0, _⟩ => rfl | ⟨1, _⟩ => rfl
  have h1 : scatter_S10000x1_S160000x1_S160000x1_1_0_0_1.start (ix2 i (0 : Fin 1) : S160000x1.Idx) (column I) 1 = 0 := by
    rfl
  have w0 : scatter_S10000x1_S160000x1_S160000x1_1_0_0_1.window (ix2 i (0 : Fin 1) : S160000x1.Idx) 0 = 0 := by
    rfl
  have w1 : scatter_S10000x1_S160000x1_S160000x1_1_0_0_1.window (ix2 i (0 : Fin 1) : S160000x1.Idx) 1 = 0 := by
    rfl
  refine (Routing.resultIdx?_ix2 _ _ _ n 0).trans ?_
  rw [h0, h1, w0, w1, BitVec.toInt_eq_toNat_cond]
  have := hI (ix1 i)
  constructor
  · rintro ⟨h, -⟩
    split at h <;> omega
  · intro h
    refine ⟨?_, rfl⟩
    split <;> omega

theorem sums_apply (hI : ∀ j, (I j).toNat < 10000) (n : Fin 10000) :
    sums x I W b (ix2 n (0 : Fin 1)) = ∑ i : Fin 160000, if (I (ix1 i)).toNat = n.val then energies x W b (ix2 i (0 : Fin 1)) else 0 := by
  show Ideal.ofBits .f32 0x00000000#32 + ∑ j ∈ Finset.univ.filter (fun j => scatter_S10000x1_S160000x1_S160000x1_1_0_0_1.resultIdx? j (column I)
    = some (ix2 n (0 : Fin 1) : S10000x1.Idx)), energies x W b j = _
  rw [Ideal.ofBits_zero_f32, zero_add, Finset.sum_filter]
  let e : Fin 160000 ≃ S160000x1.Idx :=
    { toFun := fun i => ix2 i (0 : Fin 1), invFun := fun j => j 0, left_inv := fun _ => rfl,
      right_inv := fun j => by
        refine (congrArg (fun a : Fin 1 => (ix2 (j 0 : Fin 160000) a : S160000x1.Idx)) (Subsingleton.elim _ _)).trans (eq_ix2 j).symm }
  refine (Fintype.sum_equiv e _ _ fun i => ?_).symm
  exact if_congr (lands I hI i n).symm rfl rfl

theorem result_apply (hI : ∀ j, (I j).toNat < 10000) (n : Fin 10000) :
    result x I W b (ix2 n (0 : Fin 1)) = ∑ i : Fin 160000, if (I (ix1 i)).toNat = n.val then energies x W b (ix2 i (0 : Fin 1)) else 0 := by
  refine (broadcastInDim_apply _ _ _ _ (ix1 n : S10000.Idx) (by intro a; match a with | ⟨0, _⟩ => rfl)).trans ?_
  refine (Ideal.hostReduceAdd_single (a := 1) reducesTo_S10000x1_S10000_d1 (by decide) (sums x I W b) _ (ix1 n)).trans ?_
  show Ideal.ofBits .f32 0x00000000#32 + _ = _
  rw [Ideal.ofBits_zero_f32, zero_add, ← sums_apply x I W b hI n]
  refine (Fintype.sum_unique (ι := Fin 1) _).trans (congrArg (sums x I W b) ?_)
  funext a
  match a with | ⟨0, _⟩ => rfl | ⟨1, _⟩ => rfl

end Cert.Proof.Totals

end
-- ==== Proof.Value.lean ====
/-
  What the kernel computes over the reals: the product's blocks are the atoms' energies, a tile's accumulator the sum of
  those of its 5000 atoms that are the molecule's, the totals the sum over the tiles; that is the sum over all atoms, which
  the reference takes.
-/
module

public import proofs.«01_k».proof.Proof.Frames
public import proofs.«01_k».proof.Proof.Totals
public import Idealize.ShloMosaic.Lib.MatmulPlain

@[expose] public section

noncomputable section

namespace Cert.Proof.Seg

open Cert.KernelIdeal Cert.KernelIdeal.Gen
open Idealize.ShloMosaic hiding ix1 ix2 ix3 eq_ix1 eq_ix2 eq_ix3
open Idealize.ShloMosaic.TcCoe
open Idealize.SL Idealize.SL.Sem
open Idealize.ShloMosaic.ValueIdx (ix1 ix2 ix3 eq_ix1 eq_ix2 eq_ix3)

variable (m : (ℓ : Loc nD τ sig) → Buf (Elt Ideal) ℓ)

theorem row_lt (w : Fin 32) (k : Fin 5000) : 5000 * w.val + k.val < 160000 := by omega

/-- The arguments: the rows, the weights, the bias. -/
def argX (d : Dev nD) : S160000x256.Idx → EReal := m ((d : Thread nD τ).loc main_arg0)
def argW (d : Dev nD) : S256x1.Idx → EReal := m ((d : Thread nD τ).loc main_arg2)
def argB (d : Dev nD) : S1.Idx → EReal := m ((d : Thread nD τ).loc main_arg3)

/-- One atom's energy: the weights times its row, and the bias. -/
def lin (d : Dev nD) (n : Fin 160000) : EReal :=
  (∑ j : Fin 256, argW m d (ix2 j (0 : Fin 1)) * argX m d (ix2 n j)) + argB m d (ix1 (0 : Fin 1))

/-- A block of the product, read at an atom. -/
theorem pay1_apply (W : Vec Ideal S1x256 .f32) (X : Vec Ideal S5000x256 .f32) (b : Vec Ideal S1x1 .f32) (k : Fin 5000) :
    k0_pay1 W X b (ix3 (0 : Fin 1) (0 : Fin 1) k : S1x1x5000.Idx)
      = (∑ j : Fin 256, W (ix2 (0 : Fin 1) j : S1x256.Idx) * X (ix2 k j : S5000x256.Idx)) + b (ix2 (0 : Fin 1) (0 : Fin 1) : S1x1.Idx) := by
  unfold k0_pay1
  rw [shapeCast_self, shapeCast_self]
  refine (shapeCast_apply _ _ _ (ix2 (0 : Fin 1) k : S1x5000.Idx) ?_).trans ?_
  · rw [Shape.rowMajor_val_two, Shape.rowMajor_val_three]; simp
  · refine congrArg₂ (· + ·) ?_ ?_
    · refine (Ideal.matmul_transposedRhs_apply (M := 1) (K := 256) (N := 5000) none W X _ (0 : Fin 1) k).trans ?_
      show Ideal.ofBits .f32 0x00000000#32 + _ = _
      rw [Ideal.ofBits_zero_f32, zero_add]
    · exact broadcastTo_apply _ _ _ _ (by intro a; match a with | ⟨0, _⟩ => rfl | ⟨1, _⟩ => rfl)

/-- Where the product's windows stand at a point: the rows and the results go block by block, the rest stays. -/
theorem index_prod : ∀ t : Fin cfg0.grid.N, win0_3.index t 0 = t.val ∧ win0_3.index t 2 = 0 ∧ win0_2.index t 0 = t.val
    ∧ win0_2.index t 1 = 0 ∧ win0_0.index t 0 = 0 ∧ win0_0.index t 1 = 0 ∧ win0_1.index t 0 = 0 ∧ win0_1.index t 1 = 0 := by
  decide +kernel

/-- What the product finds of the rows, -/
theorem found_X (d : Dev nD) (t : Fin cfg0.grid.N) (k : Fin 5000) (j : Fin 256) :
    fnd0 (A0 m) d 2 t (ix2 k j : S5000x256.Idx) = argX m d (ix2 ⟨5000 * t.val + k.val, row_lt t k⟩ j) := by
  show ((cfg0.win 2).blk t).view.read (Elt Ideal) (ent0 (A0 m) d 2) (ix2 k j : S5000x256.Idx) = _
  obtain ⟨-, -, e0, e1, -⟩ := index_prod t
  rw [View.read_apply]
  refine congrArg (argX m d) (funext fun a => Fin.ext ?_)
  match a with
  | ⟨0, _⟩ => exact (Pipeline.Window.rect_emb_val win0_2 t _ 0 rfl).trans (by rw [e0]; show t.val * 5000 + k.val = 5000 * t.val + k.val; omega)
  | ⟨1, _⟩ => exact (Pipeline.Window.rect_emb_val win0_2 t _ 1 rfl).trans (by rw [e1]; show 0 * 256 + j.val = j.val; omega)

/-- of the weights, -/
theorem found_W (d : Dev nD) (t : Fin cfg0.grid.N) (j : Fin 256) :
    fnd0 (A0 m) d 0 t (ix2 (0 : Fin 1) j : S1x256.Idx) = argW m d (ix2 j (0 : Fin 1)) := by
  show ((cfg0.win 0).blk t).view.read (Elt Ideal) (ent0 (A0 m) d 0) (ix2 (0 : Fin 1) j : S1x256.Idx) = _
  obtain ⟨-, -, -, -, e0, e1, -⟩ := index_prod t
  rw [View.read_apply]
  have e : ((cfg0.win 0).blk t).view.emb (ix2 (0 : Fin 1) j : S1x256.Idx) = (ix2 (0 : Fin 1) j : S1x256.Idx) := by
    funext a
    refine Fin.ext ?_
    match a with
    | ⟨0, _⟩ => exact (Pipeline.Window.rect_emb_val win0_0 t _ 0 rfl).trans (by rw [e0]; rfl)
    | ⟨1, _⟩ => exact (Pipeline.Window.rect_emb_val win0_0 t _ 1 rfl).trans (by rw [e1]; show 0 * 256 + j.val = j.val; omega)
  refine (congrArg ((A0 m).wv d) e).trans (shapeCast_apply _ _ _ (ix2 j (0 : Fin 1) : S256x1.Idx) ?_)
  rw [Shape.rowMajor_val_two, Shape.rowMajor_val_two]; simp

/-- of the bias. -/
theorem found_B (d : Dev nD) (t : Fin cfg0.grid.N) :
    fnd0 (A0 m) d 1 t (ix2 (0 : Fin 1) (0 : Fin 1) : S1x1.Idx) = argB m d (ix1 (0 : Fin 1)) := by
  show ((cfg0.win 1).blk t).view.read (Elt Ideal) (ent0 (A0 m) d 1) (ix2 (0 : Fin 1) (0 : Fin 1) : S1x1.Idx) = _
  obtain ⟨-, -, -, -, -, -, e0, e1⟩ := index_prod t
  rw [View.read_apply]
  have e : ((cfg0.win 1).blk t).view.emb (ix2 (0 : Fin 1) (0 : Fin 1) : S1x1.Idx) = (ix2 (0 : Fin 1) (0 : Fin 1) : S1x1.Idx) := by
    funext a
    refine Fin.ext ?_
    match a with
    | ⟨0, _⟩ => exact (Pipeline.Window.rect_emb_val win0_1 t _ 0 rfl).trans (by rw [e0]; rfl)
    | ⟨1, _⟩ => exact (Pipeline.Window.rect_emb_val win0_1 t _ 1 rfl).trans (by rw [e1]; rfl)
  refine (congrArg ((A0 m).bv d) e).trans (shapeCast_apply _ _ _ (ix1 (0 : Fin 1) : S1.Idx) ?_)
  rw [Shape.rowMajor_val_one, Shape.rowMajor_val_two]; simp

/-- The product holds the atoms' energies. -/
theorem prod_apply (d : Dev nD) : prod (A0 m) d = fun i : S32x1x5000.Idx => lin m d ⟨5000 * (i 0).val + (i 2).val, row_lt (i 0) (i 2)⟩ := by
  refine (dat0 (A0 m) d).arrAt_eq_of_covers 3 _ (by decide +kernel) fun t hf y => ?_
  obtain ⟨e0, e2, -⟩ := index_prod t
  blk_simp
  have hy : y = (ix3 (0 : Fin 1) (0 : Fin 1) (y 2 : Fin 5000) : S1x1x5000.Idx) := by
    refine (eq_ix3 (y : S1x1x5000.Idx)).trans ?_
    exact congrArg₂ (fun a b : Fin 1 => (ix3 a b (y 2 : Fin 5000) : S1x1x5000.Idx)) (Subsingleton.elim _ _) (Subsingleton.elim _ _)
  have h : (dat0 (A0 m) d).after 3 t y = lin m d ⟨5000 * t.val + (y 2 : Fin 5000).val, row_lt t (y 2 : Fin 5000)⟩ := by
    conv_lhs => rw [hy]
    refine (pay1_apply (fnd0 (A0 m) d 0 t) (fnd0 (A0 m) d 2 t) (fnd0 (A0 m) d 1 t) (y 2)).trans ?_
    refine congrArg₂ (· + ·) (Finset.sum_congr rfl fun j _ => ?_) (found_B m d t)
    exact congrArg₂ (· * ·) (found_W m d t j) (found_X m d t (y 2 : Fin 5000) j)
  refine h.trans (congrArg (lin m d) (Fin.ext ?_))
  show 5000 * t.val + (y 2).val = 5000 * win0_3.index t 0 + (win0_3.index t 2 * 5000 + (y 2).val)
  rw [e0, e2]; omega

/-- The reduction's block, read at a molecule. -/
theorem pay2_apply (p : Vec Ideal S32x10000 .f32) (n : Fin 10000) :
    k2_pay1 p (ix2 (0 : Fin 1) n : S1x10000.Idx) = ∑ w : Fin 32, p (ix2 w n : S32x10000.Idx) := by
  unfold k2_pay1
  rw [shapeCast_self]
  refine (shapeCast_apply _ _ _ (ix1 n : S10000.Idx) ?_).trans ?_
  · rw [Shape.rowMajor_val_one, Shape.rowMajor_val_two]; simp
  · refine (Ideal.multiReduction_add_single _ _ _ _ _ _).trans (Finset.sum_congr rfl fun w _ => congrArg p ?_)
    funext a
    match a with | ⟨0, _⟩ => rfl | ⟨1, _⟩ => rfl

/-- The totals are the sums over the tiles. -/
theorem totals_apply (A : Found Ideal) (p : S32x10000.Idx → EReal) (d : Dev nD) (hp : A.pv d = p) :
    totals A d = fun i : S1x10000.Idx => ∑ w : Fin 32, p (ix2 w (i 1) : S32x10000.Idx) := by
  refine (dat2 A d).arrAt_eq_of_covers 1 _ (by decide +kernel) fun t hf y => ?_
  have hy : y = (ix2 (0 : Fin 1) (y 1 : Fin 10000) : S1x10000.Idx) := by
    refine (eq_ix2 (y : S1x10000.Idx)).trans ?_
    exact congrArg (fun a : Fin 1 => (ix2 a (y 1 : Fin 10000) : S1x10000.Idx)) (Subsingleton.elim _ _)
  obtain rfl : t = t2_0 := fin_N2 t
  blk_simp
  have h : @Eq EReal ((dat2 A d).after 1 t2_0 y) (∑ w : Fin 32, p (ix2 w (y 1 : Fin 10000) : S32x10000.Idx)) := by
    conv_lhs => rw [hy]
    refine (pay2_apply (fnd2 A d 0 t2_0) (y 1)).trans (Finset.sum_congr rfl fun w _ => ?_)
    show ((cfg2.win 0).blk t2_0).view.read (Elt Ideal) (A.pv d) (ix2 w (y 1 : Fin 10000) : S32x10000.Idx) = _
    rw [View.read_apply, hp]
    refine congrArg p (funext fun a => Fin.ext ?_)
    match a with
    | ⟨0, _⟩ => exact (Pipeline.Window.rect_emb_val win2_0 t2_0 _ 0 rfl).trans (by show 0 * 32 + w.val = w.val; omega)
    | ⟨1, _⟩ => exact (Pipeline.Window.rect_emb_val win2_0 t2_0 _ 1 rfl).trans (by show 0 * 10000 + (y 1).val = (y 1).val; omega)
  refine h.trans (Finset.sum_congr rfl fun w _ => congrArg (fun n : Fin 10000 => p (ix2 w n : S32x10000.Idx)) (Fin.ext ?_))
  exact ((Pipeline.Window.rect_emb_val win2_1 t2_0 _ 1 rfl).trans (by show 0 * 10000 + (y 1).val = (y 1).val; omega)).symm

/-- A tile's accumulator after `n` of its atoms: the sum of those that are `j`'s. -/
theorem acc_apply (I : IVec S160000 32) (Y : S32x1x5000.Idx → EReal) (w j : ℕ) : ∀ n ≤ 5000,
    acc (F := Ideal) I Y w n j = ∑ k ∈ Finset.range n, if idAt I (5000 * w + k) = j then valAt (F := Ideal) Y w k else 0
  | 0, _ => Ideal.ofBits_zero_f32
  | n + 1, h => by
    have e : n < 5000 := by omega
    rw [Finset.sum_range_succ, ← acc_apply I Y w j n (by omega)]
    show (if n < 5000 ∧ idAt I (5000 * w + n) = j then _ else _) = _
    by_cases hj : idAt I (5000 * w + n) = j
    · rw [if_pos ⟨e, hj⟩, if_pos hj]; rfl
    · rw [if_neg (fun h => hj h.2), if_neg hj, add_zero]

/-- A sum over the tiles of the sums over a tile's atoms is the sum over the atoms. -/
theorem sum_atoms (f : Fin 160000 → EReal) :
    (∑ w : Fin 32, ∑ k : Fin 5000, f ⟨5000 * w.val + k.val, row_lt w k⟩) = ∑ i : Fin 160000, f i := by
  rw [← Fintype.sum_prod_type' (f := fun (w : Fin 32) (k : Fin 5000) => f ⟨5000 * w.val + k.val, row_lt w k⟩)]
  refine Fintype.sum_equiv (finProdFinEquiv (m := 32) (n := 5000)) _ f fun p => congrArg f (Fin.ext ?_)
  show 5000 * p.1.val + p.2.val = p.2.val + 5000 * p.1.val
  omega

attribute [local irreducible] acc in
/-- What a tile leaves for a molecule: the energies of those of its atoms that are the molecule's. -/
theorem part_apply (d : Dev nD) (w : Fin 32) (n : Fin 10000) :
    Pv m (Yv m) d (ix2 w n : S32x10000.Idx)
      = ∑ k : Fin 5000, if (ids m d (ix1 ⟨5000 * w.val + k.val, row_lt w k⟩ : S160000.Idx)).toNat = n.val
          then lin m d ⟨5000 * w.val + k.val, row_lt w k⟩ else 0 := by
  have h := acc_apply (ids m d) (Yv m d) w.val n.val 5000 le_rfl
  rw [Finset.sum_range] at h
  have e : (∑ k : Fin 5000, if idAt (ids m d) (5000 * w.val + k.val) = n.val then (valAt (F := Ideal) (Yv m d) w.val k.val : EReal) else 0)
      = ∑ k : Fin 5000, if (ids m d (ix1 ⟨5000 * w.val + k.val, row_lt w k⟩ : S160000.Idx)).toNat = n.val
          then lin m d ⟨5000 * w.val + k.val, row_lt w k⟩ else 0 := by
    refine Finset.sum_congr rfl fun k _ => ?_
    have e1 : idAt (ids m d) (5000 * w.val + k.val) = (ids m d (ix1 ⟨5000 * w.val + k.val, row_lt w k⟩ : S160000.Idx)).toNat :=
      dif_pos (row_lt w k)
    have e2 : valAt (F := Ideal) (Yv m d) w.val k.val = lin m d ⟨5000 * w.val + k.val, row_lt w k⟩ :=
      (dif_pos ⟨w.isLt, k.isLt⟩).trans (congrFun (prod_apply m d) (ix3 w (0 : Fin 1) k : S32x1x5000.Idx))
    rw [e1, e2]
  exact (Pv_ix2 m (Yv m) d w n).trans (h.trans e)

attribute [local irreducible] acc in
/-- The kernel's result: of each molecule, the sum of the energies of its atoms. -/
theorem out_apply (d : Dev nD) (n : Fin 10000) :
    out m d (ix2 n (0 : Fin 1) : S10000x1.Idx)
      = ∑ i : Fin 160000, if (ids m d (ix1 i : S160000.Idx)).toNat = n.val then lin m d i else 0 := by
  refine (shapeCast_apply _ _ _ (ix2 (0 : Fin 1) n : S1x10000.Idx) ?_).trans ?_
  · rw [Shape.rowMajor_val_two, Shape.rowMajor_val_two]; simp
  · refine (congrFun (totals_apply (A1 m) (Pv m (Yv m) d) d rfl) (ix2 (0 : Fin 1) n : S1x10000.Idx)).trans ?_
    refine Eq.trans (b := (∑ w : Fin 32, ∑ k : Fin 5000, if (ids m d (ix1 ⟨5000 * w.val + k.val, row_lt w k⟩ : S160000.Idx)).toNat = n.val
      then lin m d ⟨5000 * w.val + k.val, row_lt w k⟩ else 0 : EReal)) (Finset.sum_congr rfl fun w _ => part_apply m d w n) ?_
    exact sum_atoms fun i => if (ids m d (ix1 i : S160000.Idx)).toNat = n.val then lin m d i else 0

/-- It is the reference's, of the same arguments. -/
theorem out_eq (hids : ∀ d j, (ids m d j).toNat < 10000) (d : Dev nD) :
    out m d = Totals.result (m ((d : Thread nD τ).loc main_arg0)) (m ((d : Thread nD τ).loc main_arg1))
      (m ((d : Thread nD τ).loc main_arg2)) (m ((d : Thread nD τ).loc main_arg3)) := by
  funext i
  have hi : i = (ix2 (i 0 : Fin 10000) (0 : Fin 1) : S10000x1.Idx) :=
    (eq_ix2 (i : S10000x1.Idx)).trans
      (congrArg (fun a : Fin 1 => (ix2 (i 0 : Fin 10000) a : S10000x1.Idx)) (Subsingleton.elim _ _))
  rw [hi]
  refine Eq.trans (b := (∑ j : Fin 160000, if (ids m d (ix1 j : S160000.Idx)).toNat = (i 0 : Fin 10000).val then lin m d j else 0 : EReal))
    (out_apply m d (i 0 : Fin 10000)) (Eq.trans ?_ (Totals.result_apply _ _ _ _ (hids d) (i 0 : Fin 10000)).symm)
  refine Finset.sum_congr rfl fun j _ => if_congr Iff.rfl (Eq.trans ?_ (Totals.energies_apply _ _ _ j).symm) rfl
  exact congrArg₂ (· + ·) (Finset.sum_congr rfl fun k _ => mul_comm _ _) rfl

/-- The kernel and the reference compute the same over the reals. -/
theorem equal : Cert.algebraic_KernelIdeal_ReferenceIdeal := fun m ρ m' ρ' hpre hm => by
  have hids : ∀ d j, (ids m d j).toNat < 10000 := fun d j => in_range _ _ _ _ (hpre d) j
  refine ⟨fun c => out m c, ?_, ?_⟩
  · refine (θ_run Cert.KernelIdeal.defs _ _).mono (fun r h c => ?_) (run_main (F := Ideal) m ρ (ids_lt (F := Ideal) m hpre))
    exact ⟨(h.1 c).2, (h.1 c).1⟩
  · refine (θ_run Cert.ReferenceIdeal.defs _ _).mono (fun r h c => ?_) (Cert.ReferenceIdeal.Value.run (F := Ideal) m' ρ')
    refine ⟨(h c).1.trans ?_, (h c).2⟩
    obtain ⟨h0, h1, h2, h3⟩ := hm c
    refine Eq.trans (?_ : _ = Totals.result _ _ _ _) (out_eq m hids c).symm
    rw [← h0, ← h1, ← h2, ← h3]
    rfl

end Cert.Proof.Seg

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Value

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_in_range.Gen.facts,
  Seg.frame_kernel, Seg.frame_ideal, Seg.frame_reference, Seg.frame_reference_in_range, trivial, Seg.equal⟩

end Cert.Proof

end
